-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame_scales [hPre_tame_scales : Cert.Pre_tame_scales.Facts] (m : (ℓ : Loc Cert.KernelIdeal.nD Cert.KernelIdeal.τ Cert.KernelIdeal.sig) → Buf (Elt Ideal) ℓ) : Prop :=
  ∀ c : Dev Cert.KernelIdeal.nD,
    (Cert.Pre_tame_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame_scales [hPre_tame_scales : Cert.Pre_tame_scales.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_tame_scales [hKernelIdeal : Cert.KernelIdeal.Facts] [hPre_tame_scales : Cert.Pre_tame_scales.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame_scales m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_tame_scales [hReferenceIdeal : Cert.ReferenceIdeal.Facts] [hPre_tame_scales : Cert.Pre_tame_scales.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame_scales m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_tame_scales [hKernelIdeal : Cert.KernelIdeal.Facts] [hReferenceIdeal : Cert.ReferenceIdeal.Facts] [hPre_tame_scales : Cert.Pre_tame_scales.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame_scales m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_v74) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_tame_scales : Cert.Pre_tame_scales.Facts),
    quiescent_Kernel (hKernel := hKernel)
    ∧ quiescent_KernelIdeal (hKernelIdeal := hKernelIdeal)
    ∧ quiescent_KernelIdeal_pre_tame_scales (hKernelIdeal := hKernelIdeal) (hPre_tame_scales := hPre_tame_scales)
    ∧ quiescent_ReferenceIdeal (hReferenceIdeal := hReferenceIdeal)
    ∧ quiescent_ReferenceIdeal_pre_tame_scales (hReferenceIdeal := hReferenceIdeal) (hPre_tame_scales := hPre_tame_scales)
    ∧ preserves_Kernel_KernelIdeal
    ∧ algebraic_KernelIdeal_ReferenceIdeal_pre_tame_scales (hKernelIdeal := hKernelIdeal) (hReferenceIdeal := hReferenceIdeal) (hPre_tame_scales := hPre_tame_scales)
-- ==== Pre_tame_scales.lean ====
abbrev S2x12x1024x128 : Shape := ⟨4, ![2, 12, 1024, 128]⟩
abbrev S2x12x16 : Shape := ⟨3, ![2, 12, 16]⟩
abbrev S2x12x1024x256 : Shape := ⟨4, ![2, 12, 1024, 256]⟩
abbrev S2x12x1024 : Shape := ⟨3, ![2, 12, 1024]⟩
abbrev S2x12x16x64 : Shape := ⟨4, ![2, 12, 16, 64]⟩
abbrev S_ : Shape := ⟨0, ![]⟩
abbrev S2x12x16x1 : Shape := ⟨4, ![2, 12, 16, 1]⟩

class Facts : Prop where
  shapeCasts_S2x12x1024_S2x12x16x64 : S2x12x1024.ShapeCasts S2x12x16x64
  bcast_S_S2x12x16 : S_.BroadcastsInDim S2x12x16 (![] : Fin 0 → Fin S2x12x16.rank)
  bcast_S2x12x16_S2x12x16x1_0_1_2 : S2x12x16.BroadcastsInDim S2x12x16x1 (![0, 1, 2] : Fin 3 → Fin S2x12x16x1.rank)
  bcast_S_S2x12x16x64 : S_.BroadcastsInDim S2x12x16x64 (![] : Fin 0 → Fin S2x12x16x64.rank)
  bcast_S2x12x16x1_S2x12x16x64_0_1_2_3 : S2x12x16x1.BroadcastsInDim S2x12x16x64 (![0, 1, 2, 3] : Fin 4 → Fin S2x12x16x64.rank)

variable [Facts]

def fn_part1 {F : FTy → Type} [FloatOps F] (main_v12 : IVec S2x12x16x1 1) (main_v17 : IVec S2x12x16x64 1) : IVec S2x12x16x64 1 :=
  let main_v18 : IVec S2x12x16x64 1 := broadcastInDim S2x12x16x64 ![0, 1, 2, 3] bcast_S2x12x16x1_S2x12x16x64_0_1_2_3 main_v12
  let main_v19 : IVec S2x12x16x64 1 := andi main_v18 main_v17
  main_v19

def fn {F : FTy → Type} [FloatOps F] (main_arg0 : FVec F S2x12x1024x128 .fp8e4m3) (main_arg1 : FVec F S2x12x16 .f32) (main_arg2 : FVec F S2x12x1024x128 .fp8e4m3) (main_arg3 : FVec F S2x12x16 .f32) (main_arg4 : FVec F S2x12x1024x256 .fp8e4m3) (main_arg5 : FVec F S2x12x16 .f32) (main_arg6 : FVec F S2x12x1024x256 .fp8e5m2) (main_arg7 : FVec F S2x12x1024 .f32) : IVec S2x12x16x64 1 :=
  let main_v0 : FVec F S2x12x16x64 .f32 := shapeCast S2x12x16x64 main_arg7 shapeCasts_S2x12x1024_S2x12x16x64
  let main_cst : FVec F S_ .f32 := constant S_ .f32 0x00000000#32
  let main_v1 : FVec F S2x12x16 .f32 := broadcastInDim S2x12x16 ![] bcast_S_S2x12x16 main_cst
  let main_v2 : IVec S2x12x16 1 := cmpf .oge main_arg3 main_v1
  let main_cst_0 : FVec F S_ .f32 := constant S_ .f32 0x7F800000#32
  let main_v3 : FVec F S2x12x16 .f32 := broadcastInDim S2x12x16 ![] bcast_S_S2x12x16 main_cst_0
  let main_v4 : IVec S2x12x16 1 := cmpf .olt main_arg3 main_v3
  let main_v5 : IVec S2x12x16 1 := andi main_v2 main_v4
  let main_cst_1 : FVec F S_ .f32 := constant S_ .f32 0x00000000#32
  let main_v6 : FVec F S2x12x16 .f32 := broadcastInDim S2x12x16 ![] bcast_S_S2x12x16 main_cst_1
  let main_v7 : IVec S2x12x16 1 := cmpf .oge main_arg5 main_v6
  let main_cst_2 : FVec F S_ .f32 := constant S_ .f32 0x7F800000#32
  let main_v8 : FVec F S2x12x16 .f32 := broadcastInDim S2x12x16 ![] bcast_S_S2x12x16 main_cst_2
  let main_v9 : IVec S2x12x16 1 := cmpf .olt main_arg5 main_v8
  let main_v10 : IVec S2x12x16 1 := andi main_v7 main_v9
  let main_v11 : IVec S2x12x16 1 := andi main_v5 main_v10
  let main_v12 : IVec S2x12x16x1 1 := broadcastInDim S2x12x16x1 ![0, 1, 2] bcast_S2x12x16_S2x12x16x1_0_1_2 main_v11
  let main_cst_3 : FVec F S_ .f32 := constant S_ .f32 0x00000000#32
  let main_v13 : FVec F S2x12x16x64 .f32 := broadcastInDim S2x12x16x64 ![] bcast_S_S2x12x16x64 main_cst_3
  let main_v14 : IVec S2x12x16x64 1 := cmpf .oge main_v0 main_v13
  let main_cst_4 : FVec F S_ .f32 := constant S_ .f32 0x7F800000#32
  let main_v15 : FVec F S2x12x16x64 .f32 := broadcastInDim S2x12x16x64 ![] bcast_S_S2x12x16x64 main_cst_4
  let main_v16 : IVec S2x12x16x64 1 := cmpf .olt main_v0 main_v15
  let main_v17 : IVec S2x12x16x64 1 := andi main_v14 main_v16
  fn_part1 (F := F) main_v12 main_v17
-- ==== Kernel.lean ====
abbrev S2x12x1024x128 : Shape := ⟨4, ![2, 12, 1024, 128]⟩
abbrev S2x12x16 : Shape := ⟨3, ![2, 12, 16]⟩
abbrev S2x12x1024x256 : Shape := ⟨4, ![2, 12, 1024, 256]⟩
abbrev S2x12x1024 : Shape := ⟨3, ![2, 12, 1024]⟩
abbrev S24x16 : Shape := ⟨2, ![24, 16]⟩
abbrev S24x1024x128 : Shape := ⟨3, ![24, 1024, 128]⟩
abbrev S24x1024x256 : Shape := ⟨3, ![24, 1024, 256]⟩
abbrev S24x8x128 : Shape := ⟨3, ![24, 8, 128]⟩
abbrev S1x1024x128 : Shape := ⟨3, ![1, 1024, 128]⟩
abbrev S1x1024x256 : Shape := ⟨3, ![1, 1024, 256]⟩
abbrev S1x8x128 : Shape := ⟨3, ![1, 8, 128]⟩
abbrev S128x256 : Shape := ⟨2, ![128, 256]⟩
abbrev S1024x128 : Shape := ⟨2, ![1024, 128]⟩
abbrev S1x1x128 : Shape := ⟨3, ![1, 1, 128]⟩
abbrev S1x128 : Shape := ⟨2, ![1, 128]⟩
abbrev S128x128 : Shape := ⟨2, ![128, 128]⟩
abbrev S64x64 : Shape := ⟨2, ![64, 64]⟩
abbrev S1x1 : Shape := ⟨2, ![1, 1]⟩
abbrev S1x64x256 : Shape := ⟨3, ![1, 64, 256]⟩
abbrev S64x256 : Shape := ⟨2, ![64, 256]⟩
abbrev S1x64x128 : Shape := ⟨3, ![1, 64, 128]⟩
abbrev S64x128 : Shape := ⟨2, ![64, 128]⟩
abbrev S1x1x64 : Shape := ⟨3, ![1, 1, 64]⟩
abbrev S1x64 : Shape := ⟨2, ![1, 64]⟩
abbrev S128x64 : Shape := ⟨2, ![128, 64]⟩

abbrev nBuf : Space → Nat
  | .hbm => 19
  | .vmem => 19
  | .smem => 3
  | _ => 0

abbrev bufTy : (tb : Table) → Fin (tcTables nBuf tb) → BufTy
  | .hbm, ⟨0, _⟩ => ⟨S2x12x1024x128, .fp8e4m3⟩
  | .hbm, ⟨1, _⟩ => ⟨S2x12x16, .f32⟩
  | .hbm, ⟨2, _⟩ => ⟨S2x12x1024x128, .fp8e4m3⟩
  | .hbm, ⟨3, _⟩ => ⟨S2x12x16, .f32⟩
  | .hbm, ⟨4, _⟩ => ⟨S2x12x1024x256, .fp8e4m3⟩
  | .hbm, ⟨5, _⟩ => ⟨S2x12x16, .f32⟩
  | .hbm, ⟨6, _⟩ => ⟨S2x12x1024x256, .fp8e5m2⟩
  | .hbm, ⟨7, _⟩ => ⟨S2x12x1024, .f32⟩
  | .hbm, ⟨8, _⟩ => ⟨S24x16, .f32⟩
  | .hbm, ⟨9, _⟩ => ⟨S24x16, .f32⟩
  | .hbm, ⟨10, _⟩ => ⟨S24x16, .f32⟩
  | .hbm, ⟨11, _⟩ => ⟨S24x1024x128, .fp8e4m3⟩
  | .hbm, ⟨12, _⟩ => ⟨S24x1024x128, .fp8e4m3⟩
  | .hbm, ⟨13, _⟩ => ⟨S24x1024x256, .fp8e4m3⟩
  | .hbm, ⟨14, _⟩ => ⟨S24x1024x256, .fp8e5m2⟩
  | .hbm, ⟨15, _⟩ => ⟨S24x8x128, .f32⟩
  | .hbm, ⟨16, _⟩ => ⟨S24x1024x128, .bf16⟩
  | .hbm, ⟨17, _⟩ => ⟨S24x1024x128, .bf16⟩
  | .hbm, ⟨18, _⟩ => ⟨S24x1024x256, .bf16⟩
  | .local _ .vmem, ⟨0, _⟩ => ⟨S1x1024x128, .fp8e4m3⟩
  | .local _ .vmem, ⟨1, _⟩ => ⟨S1x1024x128, .fp8e4m3⟩
  | .local _ .vmem, ⟨2, _⟩ => ⟨S1x1024x128, .fp8e4m3⟩
  | .local _ .vmem, ⟨3, _⟩ => ⟨S1x1024x128, .fp8e4m3⟩
  | .local _ .vmem, ⟨4, _⟩ => ⟨S1x1024x256, .fp8e4m3⟩
  | .local _ .vmem, ⟨5, _⟩ => ⟨S1x1024x256, .fp8e4m3⟩
  | .local _ .vmem, ⟨6, _⟩ => ⟨S1x1024x256, .fp8e5m2⟩
  | .local _ .vmem, ⟨7, _⟩ => ⟨S1x1024x256, .fp8e5m2⟩
  | .local _ .vmem, ⟨8, _⟩ => ⟨S1x8x128, .f32⟩
  | .local _ .vmem, ⟨9, _⟩ => ⟨S1x8x128, .f32⟩
  | .local _ .vmem, ⟨10, _⟩ => ⟨S1x1024x128, .bf16⟩
  | .local _ .vmem, ⟨11, _⟩ => ⟨S1x1024x128, .bf16⟩
  | .local _ .vmem, ⟨12, _⟩ => ⟨S1x1024x128, .bf16⟩
  | .local _ .vmem, ⟨13, _⟩ => ⟨S1x1024x128, .bf16⟩
  | .local _ .vmem, ⟨14, _⟩ => ⟨S1x1024x256, .bf16⟩
  | .local _ .vmem, ⟨15, _⟩ => ⟨S1x1024x256, .bf16⟩
  | .local _ .vmem, ⟨16, _⟩ => ⟨S128x256, .f32⟩
  | .local _ .vmem, ⟨17, _⟩ => ⟨S128x256, .f32⟩
  | .local _ .vmem, ⟨18, _⟩ => ⟨S1024x128, .f32⟩
  | .local _ .smem, ⟨0, _⟩ => ⟨S24x16, .f32⟩
  | .local _ .smem, ⟨1, _⟩ => ⟨S24x16, .f32⟩
  | .local _ .smem, ⟨2, _⟩ => ⟨S24x16, .f32⟩
  | _, _ => ⟨S2x12x1024x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![24], ![false]⟩

def k0_off1 (i : grid0.Coords) : Fin 2 → Nat :=
  let arg0 : BitVec 32 := BitVec.ofNat 32 (i 0).val
  let v74 : Index := Scalar.indexCast arg0
  let c0_30 : Index := 0#32
  ![v74.toNat, 0]
def k0_off2 (i : grid0.Coords) : Fin 2 → Nat :=
  let arg0 : BitVec 32 := BitVec.ofNat 32 (i 0).val
  let v119 : Index := Scalar.indexCast arg0
  let c15 : Index := 15#32
  ![v119.toNat, 15]
def k0_off3 (i : grid0.Coords) : Fin 2 → Nat :=
  let arg0 : BitVec 32 := BitVec.ofNat 32 (i 0).val
  let v197 : Index := Scalar.indexCast arg0
  let c1_96 : Index := 1#32
  ![v197.toNat, 1]
def k0_off4 (i : grid0.Coords) : Fin 2 → Nat :=
  let arg0 : BitVec 32 := BitVec.ofNat 32 (i 0).val
  let v242 : Index := Scalar.indexCast arg0
  let c14 : Index := 14#32
  ![v242.toNat, 14]
def k0_off5 (i : grid0.Coords) : Fin 2 → Nat :=
  let arg0 : BitVec 32 := BitVec.ofNat 32 (i 0).val
  let v320 : Index := Scalar.indexCast arg0
  let c2_164 : Index := 2#32
  ![v320.toNat, 2]
def k0_off6 (i : grid0.Coords) : Fin 2 → Nat :=
  let arg0 : BitVec 32 := BitVec.ofNat 32 (i 0).val
  let v365 : Index := Scalar.indexCast arg0
  let c13 : Index := 13#32
  ![v365.toNat, 13]
def k0_off7 (i : grid0.Coords) : Fin 2 → Nat :=
  let arg0 : BitVec 32 := BitVec.ofNat 32 (i 0).val
  let v443 : Index := Scalar.indexCast arg0
  let c3_231 : Index := 3#32
  ![v443.toNat, 3]
def k0_off8 (i : grid0.Coords) : Fin 2 → Nat :=
  let arg0 : BitVec 32 := BitVec.ofNat 32 (i 0).val
  let v488 : Index := Scalar.indexCast arg0
  let c12 : Index := 12#32
  ![v488.toNat, 12]
def k0_off9 (i : grid0.Coords) : Fin 2 → Nat :=
  let arg0 : BitVec 32 := BitVec.ofNat 32 (i 0).val
  let v566 : Index := Scalar.indexCast arg0
  let c4_298 : Index := 4#32
  ![v566.toNat, 4]
def k0_off10 (i : grid0.Coords) : Fin 2 → Nat :=
  let arg0 : BitVec 32 := BitVec.ofNat 32 (i 0).val
  let v611 : Index := Scalar.indexCast arg0
  let c11 : Index := 11#32
  ![v611.toNat, 11]
def k0_off11 (i : grid0.Coords) : Fin 2 → Nat :=
  let arg0 : BitVec 32 := BitVec.ofNat 32 (i 0).val
  let v689 : Index := Scalar.indexCast arg0
  let c5_365 : Index := 5#32
  ![v689.toNat, 5]
def k0_off12 (i : grid0.Coords) : Fin 2 → Nat :=
  let arg0 : BitVec 32 := BitVec.ofNat 32 (i 0).val
  let v734 : Index := Scalar.indexCast arg0
  let c10 : Index := 10#32
  ![v734.toNat, 10]
def k0_off13 (i : grid0.Coords) : Fin 2 → Nat :=
  let arg0 : BitVec 32 := BitVec.ofNat 32 (i 0).val
  let v812 : Index := Scalar.indexCast arg0
  let c6_432 : Index := 6#32
  ![v812.toNat, 6]
def k0_off14 (i : grid0.Coords) : Fin 2 → Nat :=
  let arg0 : BitVec 32 := BitVec.ofNat 32 (i 0).val
  let v857 : Index := Scalar.indexCast arg0
  let c9 : Index := 9#32
  ![v857.toNat, 9]
def k0_off15 (i : grid0.Coords) : Fin 2 → Nat :=
  let arg0 : BitVec 32 := BitVec.ofNat 32 (i 0).val
  let v935 : Index := Scalar.indexCast arg0
  let c7_499 : Index := 7#32
  ![v935.toNat, 7]
def k0_off16 (i : grid0.Coords) : Fin 2 → Nat :=
  let arg0 : BitVec 32 := BitVec.ofNat 32 (i 0).val
  let v980 : Index := Scalar.indexCast arg0
  let c8 : Index := 8#32
  ![v980.toNat, 8]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S24x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S24x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S24x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x256 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024x256 .fp8e5m2 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S2x12x1024x128 : Shape := ⟨4, ![2, 12, 1024, 128]⟩
abbrev S2x12x16 : Shape := ⟨3, ![2, 12, 16]⟩
abbrev S2x12x1024x256 : Shape := ⟨4, ![2, 12, 1024, 256]⟩
abbrev S2x12x1024 : Shape := ⟨3, ![2, 12, 1024]⟩
abbrev S2x12x16x64x128 : Shape := ⟨5, ![2, 12, 16, 64, 128]⟩
abbrev S2x12x16x64x256 : Shape := ⟨5, ![2, 12, 16, 64, 256]⟩
abbrev S2x12x16x64 : Shape := ⟨4, ![2, 12, 16, 64]⟩
abbrev S2x12x16x1x1 : Shape := ⟨5, ![2, 12, 16, 1, 1]⟩
abbrev S2x12x16x64x1 : Shape := ⟨5, ![2, 12, 16, 64, 1]⟩
abbrev S2x12x16x128x256 : Shape := ⟨5, ![2, 12, 16, 128, 256]⟩
abbrev S_ : Shape := ⟨0, ![]⟩
abbrev S2x12x15x128x256 : Shape := ⟨5, ![2, 12, 15, 128, 256]⟩
abbrev S64x64 : Shape := ⟨2, ![64, 64]⟩
abbrev S2x12x16x64x64 : Shape := ⟨5, ![2, 12, 16, 64, 64]⟩
abbrev S24x1024x128 : Shape := ⟨3, ![24, 1024, 128]⟩
abbrev S24x1024x256 : Shape := ⟨3, ![24, 1024, 256]⟩

abbrev nBuf : Space → Nat
  | .hbm => 114
  | .vmem => 8
  | .smem => 0
  | _ => 0

abbrev bufTy : (tb : Table) → Fin (tcTables nBuf tb) → BufTy
  | .hbm, ⟨0, _⟩ => ⟨S2x12x1024x128, .fp8e4m3⟩
  | .hbm, ⟨1, _⟩ => ⟨S2x12x16, .f32⟩
  | .hbm, ⟨2, _⟩ => ⟨S2x12x1024x128, .fp8e4m3⟩
  | .hbm, ⟨3, _⟩ => ⟨S2x12x16, .f32⟩
  | .hbm, ⟨4, _⟩ => ⟨S2x12x1024x256, .fp8e4m3⟩
  | .hbm, ⟨5, _⟩ => ⟨S2x12x16, .f32⟩
  | .hbm, ⟨6, _⟩ => ⟨S2x12x1024x256, .fp8e5m2⟩
  | .hbm, ⟨7, _⟩ => ⟨S2x12x1024, .f32⟩
  | .hbm, ⟨8, _⟩ => ⟨S2x12x1024x128, .bf16⟩
  | .hbm, ⟨9, _⟩ => ⟨S2x12x1024x128, .bf16⟩
  | .hbm, ⟨10, _⟩ => ⟨S2x12x1024x256, .bf16⟩
  | .hbm, ⟨11, _⟩ => ⟨S2x12x1024x256, .bf16⟩
  | .hbm, ⟨12, _⟩ => ⟨S2x12x16x64x128, .bf16⟩
  | .hbm, ⟨13, _⟩ => ⟨S2x12x16x64x128, .bf16⟩
  | .hbm, ⟨14, _⟩ => ⟨S2x12x16x64x256, .bf16⟩
  | .hbm, ⟨15, _⟩ => ⟨S2x12x16x64x256, .bf16⟩
  | .hbm, ⟨16, _⟩ => ⟨S2x12x16x64, .f32⟩
  | .hbm, ⟨17, _⟩ => ⟨S2x12x16, .bf16⟩
  | .hbm, ⟨18, _⟩ => ⟨S2x12x16x1x1, .bf16⟩
  | .hbm, ⟨19, _⟩ => ⟨S2x12x16x64x128, .bf16⟩
  | .hbm, ⟨20, _⟩ => ⟨S2x12x16x64x128, .bf16⟩
  | .hbm, ⟨21, _⟩ => ⟨S2x12x16, .bf16⟩
  | .hbm, ⟨22, _⟩ => ⟨S2x12x16x1x1, .bf16⟩
  | .hbm, ⟨23, _⟩ => ⟨S2x12x16x64x128, .bf16⟩
  | .hbm, ⟨24, _⟩ => ⟨S2x12x16x64x128, .bf16⟩
  | .hbm, ⟨25, _⟩ => ⟨S2x12x16, .bf16⟩
  | .hbm, ⟨26, _⟩ => ⟨S2x12x16x1x1, .bf16⟩
  | .hbm, ⟨27, _⟩ => ⟨S2x12x16x64x256, .bf16⟩
  | .hbm, ⟨28, _⟩ => ⟨S2x12x16x64x256, .bf16⟩
  | .hbm, ⟨29, _⟩ => ⟨S2x12x16x64, .bf16⟩
  | .hbm, ⟨30, _⟩ => ⟨S2x12x16x64x1, .bf16⟩
  | .hbm, ⟨31, _⟩ => ⟨S2x12x16x64x256, .bf16⟩
  | .hbm, ⟨32, _⟩ => ⟨S2x12x16x64x256, .bf16⟩
  | .hbm, ⟨33, _⟩ => ⟨S2x12x16x128x256, .f32⟩
  | .hbm, ⟨34, _⟩ => ⟨S2x12x16, .f32⟩
  | .hbm, ⟨35, _⟩ => ⟨S2x12x16x1x1, .f32⟩
  | .hbm, ⟨36, _⟩ => ⟨S2x12x16x128x256, .f32⟩
  | .hbm, ⟨37, _⟩ => ⟨S2x12x16x128x256, .f32⟩
  | .hbm, ⟨38, _⟩ => ⟨S2x12x16x128x256, .f32⟩
  | .hbm, ⟨39, _⟩ => ⟨S_, .f32⟩
  | .hbm, ⟨40, _⟩ => ⟨S_, .f32⟩
  | .hbm, ⟨41, _⟩ => ⟨S2x12x16x128x256, .f32⟩
  | .hbm, ⟨42, _⟩ => ⟨S2x12x15x128x256, .f32⟩
  | .hbm, ⟨43, _⟩ => ⟨S_, .i32⟩
  | .hbm, ⟨44, _⟩ => ⟨S_, .f32⟩
  | .hbm, ⟨45, _⟩ => ⟨S2x12x16x128x256, .f32⟩
  | .hbm, ⟨46, _⟩ => ⟨S2x12x16x128x256, .bf16⟩
  | .hbm, ⟨47, _⟩ => ⟨S_, .f32⟩
  | .hbm, ⟨48, _⟩ => ⟨S_, .f32⟩
  | .hbm, ⟨49, _⟩ => ⟨S2x12x16x128x256, .f32⟩
  | .hbm, ⟨50, _⟩ => ⟨S2x12x15x128x256, .f32⟩
  | .hbm, ⟨51, _⟩ => ⟨S_, .i32⟩
  | .hbm, ⟨52, _⟩ => ⟨S_, .f32⟩
  | .hbm, ⟨53, _⟩ => ⟨S2x12x16x128x256, .f32⟩
  | .hbm, ⟨54, _⟩ => ⟨S2x12x16x128x256, .bf16⟩
  | .hbm, ⟨55, _⟩ => ⟨S_, .i1⟩
  | .hbm, ⟨56, _⟩ => ⟨S64x64, .i1⟩
  | .hbm, ⟨57, _⟩ => ⟨S64x64, .i32⟩
  | .hbm, ⟨58, _⟩ => ⟨S_, .i32⟩
  | .hbm, ⟨59, _⟩ => ⟨S64x64, .i32⟩
  | .hbm, ⟨60, _⟩ => ⟨S64x64, .i32⟩
  | .hbm, ⟨61, _⟩ => ⟨S64x64, .i32⟩
  | .hbm, ⟨62, _⟩ => ⟨S64x64, .i1⟩
  | .hbm, ⟨63, _⟩ => ⟨S_, .i1⟩
  | .hbm, ⟨64, _⟩ => ⟨S64x64, .i1⟩
  | .hbm, ⟨65, _⟩ => ⟨S64x64, .i1⟩
  | .hbm, ⟨66, _⟩ => ⟨S2x12x16x64x64, .f32⟩
  | .hbm, ⟨67, _⟩ => ⟨S2x12x16x64x1, .f32⟩
  | .hbm, ⟨68, _⟩ => ⟨S2x12x16x64x64, .f32⟩
  | .hbm, ⟨69, _⟩ => ⟨S2x12x16x64x64, .f32⟩
  | .hbm, ⟨70, _⟩ => ⟨S2x12x16x1x1, .f32⟩
  | .hbm, ⟨71, _⟩ => ⟨S2x12x16x64x64, .f32⟩
  | .hbm, ⟨72, _⟩ => ⟨S2x12x16x64x64, .f32⟩
  | .hbm, ⟨73, _⟩ => ⟨S_, .f32⟩
  | .hbm, ⟨74, _⟩ => ⟨S_, .f32⟩
  | .hbm, ⟨75, _⟩ => ⟨S2x12x16x64x64, .i1⟩
  | .hbm, ⟨76, _⟩ => ⟨S2x12x16x64x64, .f32⟩
  | .hbm, ⟨77, _⟩ => ⟨S2x12x16x64x64, .f32⟩
  | .hbm, ⟨78, _⟩ => ⟨S2x12x16x64x64, .bf16⟩
  | .hbm, ⟨79, _⟩ => ⟨S2x12x16x64x64, .f32⟩
  | .hbm, ⟨80, _⟩ => ⟨S2x12x16, .f32⟩
  | .hbm, ⟨81, _⟩ => ⟨S2x12x16x1x1, .f32⟩
  | .hbm, ⟨82, _⟩ => ⟨S2x12x16x64x64, .f32⟩
  | .hbm, ⟨83, _⟩ => ⟨S2x12x16x64x64, .f32⟩
  | .hbm, ⟨84, _⟩ => ⟨S_, .f32⟩
  | .hbm, ⟨85, _⟩ => ⟨S_, .f32⟩
  | .hbm, ⟨86, _⟩ => ⟨S2x12x16x64x64, .i1⟩
  | .hbm, ⟨87, _⟩ => ⟨S2x12x16x64x64, .f32⟩
  | .hbm, ⟨88, _⟩ => ⟨S2x12x16x64x64, .f32⟩
  | .hbm, ⟨89, _⟩ => ⟨S2x12x16x64x64, .bf16⟩
  | .hbm, ⟨90, _⟩ => ⟨S2x12x16x64x128, .f32⟩
  | .hbm, ⟨91, _⟩ => ⟨S2x12x16x64x128, .f32⟩
  | .hbm, ⟨92, _⟩ => ⟨S2x12x16x64x128, .f32⟩
  | .hbm, ⟨93, _⟩ => ⟨S_, .f32⟩
  | .hbm, ⟨94, _⟩ => ⟨S2x12x16x64x128, .f32⟩
  | .hbm, ⟨95, _⟩ => ⟨S2x12x16x64x128, .f32⟩
  | .hbm, ⟨96, _⟩ => ⟨S2x12x16x64x128, .f32⟩
  | .hbm, ⟨97, _⟩ => ⟨S2x12x16x64x128, .f32⟩
  | .hbm, ⟨98, _⟩ => ⟨S2x12x16x64x128, .f32⟩
  | .hbm, ⟨99, _⟩ => ⟨S_, .f32⟩
  | .hbm, ⟨100, _⟩ => ⟨S2x12x16x64x128, .f32⟩
  | .hbm, ⟨101, _⟩ => ⟨S2x12x16x64x128, .f32⟩
  | .hbm, ⟨102, _⟩ => ⟨S2x12x16x64x256, .f32⟩
  | .hbm, ⟨103, _⟩ => ⟨S2x12x16x64x256, .f32⟩
  | .hbm, ⟨104, _⟩ => ⟨S2x12x16x64x256, .f32⟩
  | .hbm, ⟨105, _⟩ => ⟨S_, .f32⟩
  | .hbm, ⟨106, _⟩ => ⟨S2x12x16x64x256, .f32⟩
  | .hbm, ⟨107, _⟩ => ⟨S2x12x16x64x256, .f32⟩
  | .hbm, ⟨108, _⟩ => ⟨S2x12x16x64x128, .bf16⟩
  | .hbm, ⟨109, _⟩ => ⟨S24x1024x128, .bf16⟩
  | .hbm, ⟨110, _⟩ => ⟨S2x12x16x64x128, .bf16⟩
  | .hbm, ⟨111, _⟩ => ⟨S24x1024x128, .bf16⟩
  | .hbm, ⟨112, _⟩ => ⟨S2x12x16x64x256, .bf16⟩
  | .hbm, ⟨113, _⟩ => ⟨S24x1024x256, .bf16⟩
  | .local _ .vmem, ⟨0, _⟩ => ⟨S2x12x1024x128, .fp8e4m3⟩
  | .local _ .vmem, ⟨1, _⟩ => ⟨S2x12x1024x128, .fp8e4m3⟩
  | .local _ .vmem, ⟨2, _⟩ => ⟨S2x12x1024x256, .fp8e4m3⟩
  | .local _ .vmem, ⟨3, _⟩ => ⟨S2x12x1024x256, .fp8e5m2⟩
  | .local _ .vmem, ⟨4, _⟩ => ⟨S2x12x1024x128, .bf16⟩
  | .local _ .vmem, ⟨5, _⟩ => ⟨S2x12x1024x128, .bf16⟩
  | .local _ .vmem, ⟨6, _⟩ => ⟨S2x12x1024x256, .bf16⟩
  | .local _ .vmem, ⟨7, _⟩ => ⟨S2x12x1024x256, .bf16⟩
  | _, _ => ⟨S2x12x1024x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_call0_call0_cst : Ref sig .tc := ⟨.hbm, 39, rfl⟩
abbrev main_call0_call0_v0 : Ref sig .tc := ⟨.hbm, 40, rfl⟩
abbrev main_v28 : Ref sig .tc := ⟨.hbm, 41, rfl⟩
abbrev main_v29 : Ref sig .tc := ⟨.hbm, 42, rfl⟩
abbrev main_c : Ref sig .tc := ⟨.hbm, 43, rfl⟩
abbrev main_call1_v0 : Ref sig .tc := ⟨.hbm, 44, rfl⟩
abbrev main_v30 : Ref sig .tc := ⟨.hbm, 45, rfl⟩
abbrev main_v31 : Ref sig .tc := ⟨.hbm, 46, rfl⟩
abbrev main_call2_cst : Ref sig .tc := ⟨.hbm, 47, rfl⟩
abbrev main_call2_v0 : Ref sig .tc := ⟨.hbm, 48, rfl⟩
abbrev main_v32 : Ref sig .tc := ⟨.hbm, 49, rfl⟩
abbrev main_v33 : Ref sig .tc := ⟨.hbm, 50, rfl⟩
abbrev main_c_0 : Ref sig .tc := ⟨.hbm, 51, rfl⟩
abbrev main_call3_v0 : Ref sig .tc := ⟨.hbm, 52, rfl⟩
abbrev main_v34 : Ref sig .tc := ⟨.hbm, 53, rfl⟩
abbrev main_v35 : Ref sig .tc := ⟨.hbm, 54, rfl⟩
abbrev main_c_1 : Ref sig .tc := ⟨.hbm, 55, rfl⟩
abbrev main_v36 : Ref sig .tc := ⟨.hbm, 56, rfl⟩
abbrev main_call4_v0 : Ref sig .tc := ⟨.hbm, 57, rfl⟩
abbrev main_call4_c : Ref sig .tc := ⟨.hbm, 58, rfl⟩
abbrev main_call4_v1 : Ref sig .tc := ⟨.hbm, 59, rfl⟩
abbrev main_call4_v2 : Ref sig .tc := ⟨.hbm, 60, rfl⟩
abbrev main_call4_v3 : Ref sig .tc := ⟨.hbm, 61, rfl⟩
abbrev main_call4_v4 : Ref sig .tc := ⟨.hbm, 62, rfl⟩
abbrev main_call4_c_0 : Ref sig .tc := ⟨.hbm, 63, rfl⟩
abbrev main_call4_v5 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst : Ref sig .tc := ⟨.hbm, 73, rfl⟩
abbrev main_call5_v0 : Ref sig .tc := ⟨.hbm, 74, rfl⟩
abbrev main_call5_v1 : Ref sig .tc := ⟨.hbm, 75, rfl⟩
abbrev main_call5_v2 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_2 : Ref sig .tc := ⟨.hbm, 84, rfl⟩
abbrev main_call6_v0 : Ref sig .tc := ⟨.hbm, 85, rfl⟩
abbrev main_call6_v1 : Ref sig .tc := ⟨.hbm, 86, rfl⟩
abbrev main_call6_v2 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_cst_3 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_cst_4 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_cst_5 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S2x12x1024x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x12x1024x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x12x1024x256 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x12x1024x256 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x12x1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x12x1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x12x1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x12x1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Chunk.lean ====
/-
  What the kernel does at ONE chunk of 64 rows, as functions of what it loads there: the block of each result it
  stores and the new contents of its two running sums. Every chunk of every head is one of these five functions
  (Proof/Pieces.lean), so the mathematics is proved once.
-/
module

public import proofs.«01_k».proof.Proof.Gen.KernelIdeal.Skeleton

@[expose] public section

noncomputable section

namespace Cert.KernelIdeal.Chunk

open Idealize.ShloMosaic Cert.KernelIdeal.Gen

variable {F : FTy → Type} [FloatOps F]

/-- The row number of each entry of a 64 by 64 tile. -/
def rowIota : IVec S64x64 32 := iota .tc S64x64 32 [0] iota_S64x64_d0_w32
/-- The column number of each entry of a 64 by 64 tile. -/
def colIota : IVec S64x64 32 := iota .tc S64x64 32 [1] iota_S64x64_d1_w32

/-- The factor `128 ^ (-1/2)` each result is multiplied by, as the kernel writes it. -/
def scale : F .f32 := Scalar.ofBits .f32 0x3DB504F3#32

/-- The block of `dq` a chunk stores: `ks`, `vs` the chunk's scales, `dO`, `v`, `k` its rows, `dcol` the scale of each
    row of `dO` (repeated along the lanes), `s` the sum over the earlier chunks. -/
def dqBlock (ks vs : Elt F .f32) (dO : Vec F S1x64x256 .fp8e5m2) (v : Vec F S1x64x256 .fp8e4m3) (k : Vec F S1x64x128 .fp8e4m3)
    (dcol : Vec F S64x128 .f32) (s : Vec F S128x256 .f32) : FVec F S1x64x128 .bf16 :=
  have do8 : FVec F S64x256 .fp8e5m2 := shapeCast S64x256 dO shapeCasts_S1x64x256_S64x256
  have v8 : FVec F S64x256 .fp8e4m3 := shapeCast S64x256 v shapeCasts_S1x64x256_S64x256
  have k8 : FVec F S64x128 .fp8e4m3 := shapeCast S64x128 k shapeCasts_S1x64x128_S64x128
  have inter : FVec F S64x128 .f32 := matmul dot_S64x256_S128x256_S64x128_1_1_0_0_n_n none
    (extf .bf16 do8 bitsLt_fp8e5m2_bf16) (truncf .bf16 s bitsLt_bf16_f32) (constant S64x128 .f32 0x00000000#32)
  have dov : FVec F S64x64 .f32 := matmul dot_S64x256_S64x256_S64x64_1_1_0_0_n_n none do8 v8 (constant S64x64 .f32 0x00000000#32)
  have a : FVec F S64x64 .bf16 := truncf .bf16 (select (cmpi .sle colIota rowIota)
    (mulf (mulf dov (extractStridedSlice S64x64 ![0, 0] dcol slices_S64x128_o0_0_S64x64)) (broadcast S64x64 vs))
    (broadcast S64x64 (Scalar.ofBits .f32 0x00000000#32))) bitsLt_bf16_f32
  have intra : FVec F S64x128 .f32 := matmul dot_S64x64_S64x128_S64x128_1_0_0_1_n_n none a (extf .bf16 k8 bitsLt_fp8e4m3_bf16)
    (constant S64x128 .f32 0x00000000#32)
  shapeCast S1x64x128 (truncf .bf16 (mulf (addf (mulf inter dcol) (mulf intra (broadcast S64x128 ks))) (broadcast S64x128 scale))
    bitsLt_bf16_f32) shapeCasts_S64x128_S1x64x128

/-- The running sum `s` after a chunk. -/
def sNext (ks vs : Elt F .f32) (v : Vec F S1x64x256 .fp8e4m3) (k : Vec F S1x64x128 .fp8e4m3) (s : Vec F S128x256 .f32) :
    FVec F S128x256 .f32 :=
  have v8 : FVec F S64x256 .fp8e4m3 := shapeCast S64x256 v shapeCasts_S1x64x256_S64x256
  have k8 : FVec F S64x128 .fp8e4m3 := shapeCast S64x128 k shapeCasts_S1x64x128_S64x128
  have u : FVec F S128x256 .f32 := matmul dot_S64x128_S64x256_S128x256_0_0_1_1_n_n none k8 v8 (constant S128x256 .f32 0x00000000#32)
  shapeCast S128x256 (addf s (mulf u (broadcast S128x256 (Scalar.mulf ks vs)))) shapeCasts_S128x256_S128x256

/-- The rows of `q` times their scale. -/
def qScaled (qs : Elt F .f32) (q : Vec F S1x64x128 .fp8e4m3) : FVec F S64x128 .bf16 :=
  mulf (extf .bf16 (shapeCast S64x128 q shapeCasts_S1x64x128_S64x128 : FVec F S64x128 .fp8e4m3) bitsLt_fp8e4m3_bf16)
    (broadcast S64x128 (Scalar.truncf .bf16 bitsLt_bf16_f32 qs))

/-- The block of `dk` a chunk stores: `drow` the scale of each row of `dO`, along the columns; `ds` the sum over the later
    chunks. -/
def dkBlock (qs vs : Elt F .f32) (q : Vec F S1x64x128 .fp8e4m3) (v : Vec F S1x64x256 .fp8e4m3) (dO : Vec F S1x64x256 .fp8e5m2)
    (drow : Vec F S1x1x64 .f32) (ds : Vec F S128x256 .f32) : FVec F S1x64x128 .bf16 :=
  have do8 : FVec F S64x256 .fp8e5m2 := shapeCast S64x256 dO shapeCasts_S1x64x256_S64x256
  have v8 : FVec F S64x256 .fp8e4m3 := shapeCast S64x256 v shapeCasts_S1x64x256_S64x256
  have dr : FVec F S1x64 .f32 := shapeCast S1x64 drow shapeCasts_S1x1x64_S1x64
  have inter : FVec F S64x128 .f32 := matmul dot_S64x256_S128x256_S64x128_1_1_0_0_n_n none
    (extf .bf16 v8 bitsLt_fp8e4m3_bf16) (truncf .bf16 ds bitsLt_bf16_f32) (constant S64x128 .f32 0x00000000#32)
  have dovT : FVec F S64x64 .f32 := matmul dot_S64x256_S64x256_S64x64_1_1_0_0_n_n none v8 do8 (constant S64x64 .f32 0x00000000#32)
  have aT : FVec F S64x64 .bf16 := truncf .bf16 (select (cmpi .sle rowIota colIota)
    (mulf dovT (broadcastTo S64x64 (mulf dr (broadcast S1x64 vs)) broadcasts_S1x64_S64x64))
    (broadcast S64x64 (Scalar.ofBits .f32 0x00000000#32))) bitsLt_bf16_f32
  have intra : FVec F S64x128 .f32 := matmul dot_S64x64_S64x128_S64x128_1_0_0_1_n_n none aT (qScaled qs q)
    (constant S64x128 .f32 0x00000000#32)
  shapeCast S1x64x128 (truncf .bf16 (mulf (addf (mulf inter (broadcast S64x128 vs)) intra) (broadcast S64x128 scale))
    bitsLt_bf16_f32) shapeCasts_S64x128_S1x64x128

/-- The block of `dv` a chunk stores. -/
def dvBlock (qs ks : Elt F .f32) (q k : Vec F S1x64x128 .fp8e4m3) (dO : Vec F S1x64x256 .fp8e5m2)
    (drow : Vec F S1x1x64 .f32) (ds : Vec F S128x256 .f32) : FVec F S1x64x256 .bf16 :=
  have q8 : FVec F S64x128 .fp8e4m3 := shapeCast S64x128 q shapeCasts_S1x64x128_S64x128
  have k8 : FVec F S64x128 .fp8e4m3 := shapeCast S64x128 k shapeCasts_S1x64x128_S64x128
  have do8 : FVec F S64x256 .fp8e5m2 := shapeCast S64x256 dO shapeCasts_S1x64x256_S64x256
  have dr : FVec F S1x64 .f32 := shapeCast S1x64 drow shapeCasts_S1x1x64_S1x64
  have qkT : FVec F S64x64 .f32 := matmul dot_S64x128_S64x128_S64x64_1_1_0_0_n_n none k8 q8 (constant S64x64 .f32 0x00000000#32)
  have pT : FVec F S64x64 .bf16 := truncf .bf16 (select (cmpi .sle rowIota colIota)
    (mulf qkT (broadcast S64x64 (Scalar.mulf qs ks))) (broadcast S64x64 (Scalar.ofBits .f32 0x00000000#32))) bitsLt_bf16_f32
  have pTd : FVec F S64x64 .bf16 := mulf pT (broadcastTo S64x64 (truncf .bf16 dr bitsLt_bf16_f32) broadcasts_S1x64_S64x64)
  have kb : FVec F S64x128 .bf16 := mulf (extf .bf16 k8 bitsLt_fp8e4m3_bf16) (broadcast S64x128 (Scalar.truncf .bf16 bitsLt_bf16_f32 ks))
  have inter : FVec F S64x256 .f32 := matmul dot_S64x128_S128x256_S64x256_1_0_0_1_n_n none kb (truncf .bf16 ds bitsLt_bf16_f32)
    (constant S64x256 .f32 0x00000000#32)
  have intra : FVec F S64x256 .f32 := matmul dot_S64x64_S64x256_S64x256_1_0_0_1_n_n none pTd (extf .bf16 do8 bitsLt_fp8e5m2_bf16)
    (constant S64x256 .f32 0x00000000#32)
  shapeCast S1x64x256 (truncf .bf16 (mulf (addf inter intra) (broadcast S64x256 scale)) bitsLt_bf16_f32) shapeCasts_S64x256_S1x64x256

/-- The running sum `ds` after a chunk. -/
def dsNext (qs : Elt F .f32) (q : Vec F S1x64x128 .fp8e4m3) (dO : Vec F S1x64x256 .fp8e5m2) (drow : Vec F S1x1x64 .f32)
    (ds : Vec F S128x256 .f32) : FVec F S128x256 .f32 :=
  have do8 : FVec F S64x256 .fp8e5m2 := shapeCast S64x256 dO shapeCasts_S1x64x256_S64x256
  have dr : FVec F S1x64 .f32 := shapeCast S1x64 drow shapeCasts_S1x1x64_S1x64
  have qT : FVec F S128x64 .bf16 := mulf (transpose S128x64 [1, 0] (qScaled qs q) transposes_S64x128_p1_0_S128x64)
    (broadcastTo S128x64 (truncf .bf16 dr bitsLt_bf16_f32) broadcasts_S1x64_S128x64)
  have w : FVec F S128x256 .f32 := matmul dot_S128x64_S64x256_S128x256_1_0_0_1_n_n none qT (extf .bf16 do8 bitsLt_fp8e5m2_bf16)
    (constant S128x256 .f32 0x00000000#32)
  shapeCast S128x256 (addf ds w) shapeCasts_S128x256_S128x256

/-- What a running sum holds before its first chunk: zeros. -/
def zeroSum : FVec F S128x256 .f32 :=
  shapeCast S128x256 (broadcast S128x256 (Scalar.ofBits .f32 0x00000000#32 : F .f32)) shapeCasts_S128x256_S128x256

/-- 128 scales of rows of `dO`, one per ROW of a tile, the same in every lane. -/
def colTile (x : Vec F S1x1x128 .f32) : FVec F S128x128 .f32 :=
  shapeCast S128x128 (transpose S128x128 [1, 0] (broadcastTo S128x128
    (shapeCast S1x128 (shapeCast S1x128 x shapeCasts_S1x1x128_S1x128 : FVec F S1x128 .f32) shapeCasts_S1x128_S1x128 : FVec F S1x128 .f32)
    broadcasts_S1x128_S128x128) transposes_S128x128_p1_0_S128x128) shapeCasts_S128x128_S128x128

end Cert.KernelIdeal.Chunk

end
-- ==== Proof.ChunkAt.lean ====
/-
  The functions of Proof/Chunk.lean read at an index, in the extended reals.
-/
module

public import proofs.«01_k».proof.Proof.Chunk
public import Idealize.ShloMosaic.Lib.Pointwise

@[expose] public section

set_option maxRecDepth 16384

noncomputable section

namespace Cert.KernelIdeal.Chunk

open Idealize.ShloMosaic Idealize.ShloMosaic.Pointwise Cert.KernelIdeal.Gen

/-- The number the results are multiplied by last, `128 ^ (-1/2)` as the program has it. -/
abbrev sigma : EReal := Ideal.ofBits .f32 1035273459#32

/-- The causal mask of a chunk is decided by the order of its rows. -/
theorem cmp_le (x t : Fin 64) : IntOp.cmpi .sle (BitVec.ofNat 32 x.val) (BitVec.ofNat 32 t.val) = if x ≤ t then 1#1 else 0#1 := by
  revert x t
  decide +kernel

theorem mask_le (x t : Fin 64) (a b : EReal) :
    Scalar.select (IntOp.cmpi .sle (BitVec.ofNat 32 x.val) (BitVec.ofNat 32 t.val)) a b = if x ≤ t then a else b := by
  rw [cmp_le]
  by_cases h : x ≤ t
  · rw [if_pos h, if_pos h]; rfl
  · rw [if_neg h, if_neg h]; rfl

/-- A chunk's block of `dq`. -/
theorem dqBlock_at (ks vs : Elt Ideal .f32) (dO : Vec Ideal S1x64x256 .fp8e5m2) (v : Vec Ideal S1x64x256 .fp8e4m3)
    (k : Vec Ideal S1x64x128 .fp8e4m3) (dcol : Vec Ideal S64x128 .f32) (s : Vec Ideal S128x256 .f32) (t : Fin 64) (d : Fin 128) :
    dqBlock ks vs dO v k dcol s (ix3 0 t d)
      = ((∑ x, dO (ix3 0 t x) * s (ix2 d x)) * dcol (ix2 t d)
          + (∑ x : Fin 64, if x ≤ t then (∑ y, dO (ix3 0 t y) * v (ix3 0 x y)) * dcol (ix2 t ⟨x.val, by omega⟩) * vs * k (ix3 0 x d)
              else 0) * ks) * sigma := by
  pointwise [dqBlock, rowIota, colIota, scale]
  simp only [mask_le, ite_mul, zero_mul]
  try rfl

/-- The sum `s` after a chunk. -/
theorem sNext_at (ks vs : Elt Ideal .f32) (v : Vec Ideal S1x64x256 .fp8e4m3) (k : Vec Ideal S1x64x128 .fp8e4m3)
    (s : Vec Ideal S128x256 .f32) (d : Fin 128) (e : Fin 256) :
    sNext ks vs v k s (ix2 d e) = s (ix2 d e) + (∑ x, k (ix3 0 x d) * v (ix3 0 x e)) * (ks * vs) := by
  pointwise [sNext]

/-- A chunk's block of `dk`. -/
theorem dkBlock_at (qs vs : Elt Ideal .f32) (q : Vec Ideal S1x64x128 .fp8e4m3) (v : Vec Ideal S1x64x256 .fp8e4m3) (dO : Vec Ideal S1x64x256 .fp8e5m2)
    (drow : Vec Ideal S1x1x64 .f32) (ds : Vec Ideal S128x256 .f32) (t : Fin 64) (d : Fin 128) :
    dkBlock qs vs q v dO drow ds (ix3 0 t d)
      = ((∑ x, v (ix3 0 t x) * ds (ix2 d x)) * vs
          + ∑ x : Fin 64, if t ≤ x then (∑ y, v (ix3 0 t y) * dO (ix3 0 x y)) * (drow (ix3 0 0 x) * vs) * (q (ix3 0 x d) * qs) else 0)
          * sigma := by
  pointwise [dkBlock, qScaled, rowIota, colIota, scale]
  simp only [mask_le, ite_mul, zero_mul]
  try rfl

/-- A chunk's block of `dv`. -/
theorem dvBlock_at (qs ks : Elt Ideal .f32) (q k : Vec Ideal S1x64x128 .fp8e4m3) (dO : Vec Ideal S1x64x256 .fp8e5m2)
    (drow : Vec Ideal S1x1x64 .f32) (ds : Vec Ideal S128x256 .f32) (t : Fin 64) (d : Fin 256) :
    dvBlock qs ks q k dO drow ds (ix3 0 t d)
      = (∑ x, k (ix3 0 t x) * ks * ds (ix2 x d)
          + ∑ x : Fin 64, if t ≤ x then (∑ y, k (ix3 0 t y) * q (ix3 0 x y)) * (qs * ks) * drow (ix3 0 0 x) * dO (ix3 0 x d) else 0)
          * sigma := by
  pointwise [dvBlock, rowIota, colIota, scale]
  simp only [mask_le, ite_mul, zero_mul]
  try rfl

/-- The sum `ds` after a chunk. -/
theorem dsNext_at (qs : Elt Ideal .f32) (q : Vec Ideal S1x64x128 .fp8e4m3) (dO : Vec Ideal S1x64x256 .fp8e5m2) (drow : Vec Ideal S1x1x64 .f32)
    (ds : Vec Ideal S128x256 .f32) (d : Fin 128) (e : Fin 256) :
    dsNext qs q dO drow ds (ix2 d e) = ds (ix2 d e) + ∑ x, q (ix3 0 x d) * qs * drow (ix3 0 0 x) * dO (ix3 0 x e) := by
  pointwise [dsNext, qScaled]

/-- A row of scales turned into a column, the same in every lane. -/
theorem colTile_at (x : Vec Ideal S1x1x128 .f32) (t l : Fin 128) : colTile x (ix2 t l) = x (ix3 0 0 t) := by
  pointwise [colTile]

/-- The sums start at zero. -/
theorem zeroSum_at (d : Fin 128) (e : Fin 256) : zeroSum (F := Ideal) (ix2 d e) = 0 := by
  pointwise [zeroSum]

end Cert.KernelIdeal.Chunk

end
-- ==== Proof.Pieces.lean ====
/-
  What one run of the kernel's body stores, as LISTS: the 16 blocks of each result, each the chunk's function
  (Proof/Chunk.lean) of what it loads, and the two running sums after any number of chunks. The chunk is a variable here;
  nothing later looks at the sixteen separately.
-/
module

public import proofs.«01_k».proof.Proof.Chunk
public import proofs.«01_k».proof.Proof.Gen.KernelIdeal.Frame
public import Idealize.ShloMosaic.Lib.Pointwise

@[expose] public section

set_option maxRecDepth 16384

noncomputable section

namespace Cert.KernelIdeal.Chunk

open Idealize.ShloMosaic Cert.KernelIdeal.Gen

variable {F : FTy → Type} [FloatOps F]

/-- Chunk `n`, reduced into range so that a chunk number can be any natural number. -/
def ck (n : ℕ) : Fin 16 := ⟨n % 16, Nat.mod_lt _ (by decide)⟩

theorem inb128 (n : Fin 16) : ∀ a, (![0, 64 * n.val, 0] : Fin 3 → Nat) a + S1x64x128.size a ≤ S1x1024x128.size a := by
  revert n; decide
theorem inb256 (n : Fin 16) : ∀ a, (![0, 64 * n.val, 0] : Fin 3 → Nat) a + S1x64x256.size a ≤ S1x1024x256.size a := by
  revert n; decide
theorem inbRow (n : Fin 16) : ∀ a, (![0, n.val / 2, n.val % 2 * 64] : Fin 3 → Nat) a + S1x1x64.size a ≤ S1x8x128.size a := by
  revert n; decide
theorem inbCol (n : Fin 16) : ∀ a, (![64 * n.val, 0] : Fin 2 → Nat) a + S64x128.size a ≤ S1024x128.size a := by
  revert n; decide
theorem inbTile (r : Fin 8) : ∀ a, (![128 * r.val, 0] : Fin 2 → Nat) a + S128x128.size a ≤ S1024x128.size a := by
  revert r; decide
theorem inbLanes (r : Fin 8) : ∀ a, (![0, r.val, 0] : Fin 3 → Nat) a + S1x1x128.size a ≤ S1x8x128.size a := by
  revert r; decide

/-- Where the scale of chunk `n` of head `i` stands in a scale array. -/
def offScale (i : grid0.Coords) (n : ℕ) : Fin 2 → Nat := ![(Scalar.indexCast (BitVec.ofNat 32 (i 0).val) : Index).toNat, n]

theorem inbScale : ∀ (i : grid0.Coords) (n : Fin 16), ∀ a, offScale i n a + S1x1.size a ≤ S24x16.size a := by
  decide +kernel

/-- The scale of chunk `n` that a head loads. -/
def ldScale (i : grid0.Coords) (M : Memref sig .tc .smem S24x16 .f32) (h : M.IsWhole) (x : Vec F S24x16 .f32) (n : Fin 16) : Elt F .f32 :=
  M.view.readAt (Elt F) (Rect.unit (s := S24x16) (offScale i n) S1x1.size (inbScale i n)).toLoadRect (h.unread x) (Shape.Idx.first (Nat.lt_of_lt_of_eq Nat.one_pos numel1_S1x1.symm))

/-- The rows of chunk `n` that a head loads, of an array 128 wide; -/
def ld128 {e : EltTy} (M : Memref sig .tc .vmem S1x1024x128 e) (h : M.IsWhole) (x : Vec F S1x1024x128 e) (n : Fin 16) : Vec F S1x64x128 e :=
  M.view.readAt (Elt F) (Rect.unit (s := S1x1024x128) ![0, 64 * n.val, 0] S1x64x128.size (inb128 n)).toLoadRect (h.unread x)

/-- 256 wide; -/
def ld256 {e : EltTy} (M : Memref sig .tc .vmem S1x1024x256 e) (h : M.IsWhole) (x : Vec F S1x1024x256 e) (n : Fin 16) : Vec F S1x64x256 e :=
  M.view.readAt (Elt F) (Rect.unit (s := S1x1024x256) ![0, 64 * n.val, 0] S1x64x256.size (inb256 n)).toLoadRect (h.unread x)

/-- the scales of the rows of `dO`, along the lanes. -/
def ldRow (M : Memref sig .tc .vmem S1x8x128 .f32) (h : M.IsWhole) (x : Vec F S1x8x128 .f32) (n : Fin 16) : Vec F S1x1x64 .f32 :=
  M.view.readAt (Elt F) (Rect.unit (s := S1x8x128) ![0, n.val / 2, n.val % 2 * 64] S1x1x64.size (inbRow n)).toLoadRect (h.unread x)

/-- The eight stores that turn the scales of the rows of `dO` into columns. -/
def colPieces (M : Memref sig .tc .vmem S1x8x128 .f32) (h : M.IsWhole) (x : Vec F S1x8x128 .f32) : List (View.Piece (Elt F) S1024x128 .f32) :=
  [(7 : Fin 8), 6, 5, 4, 3, 2, 1, 0].map fun r => ⟨Rect.unit (s := S1024x128) ![128 * r.val, 0] S128x128.size (inbTile r),
    colTile (M.view.readAt (Elt F) (Rect.unit (s := S1x8x128) ![0, r.val, 0] S1x1x128.size (inbLanes r)).toLoadRect (h.unread x))⟩

/-- The columns read back at chunk `n`. -/
def ldCol (M14 : Memref sig .tc .vmem S1024x128 .f32) (M : Memref sig .tc .vmem S1x8x128 .f32) (h : M.IsWhole) (x : Vec F S1x8x128 .f32)
    (n : Fin 16) : Vec F S64x128 .f32 :=
  M14.view.readCov (colPieces M h x) (Rect.unit (s := S1024x128) ![64 * n.val, 0] S64x128.size (inbCol n)).toLoadRect

/-- The whole of a running sum's buffer. -/
abbrev wholeSum : Rect S128x256 := Rect.unit ![0, 0] S128x256.size inb_S128x256_S128x256_0_0

/-- A running sum's stores, last first, after `n` chunks: `step j` turns what chunk `j` (counted in the order the sum is made)
    finds into what it leaves. -/
def sumPieces (M : Memref sig .tc .vmem S128x256 .f32) (step : ℕ → Vec F S128x256 .f32 → FVec F S128x256 .f32) :
    ℕ → List (View.Piece (Elt F) S128x256 .f32)
  | 0 => [⟨wholeSum, zeroSum⟩]
  | n + 1 => ⟨wholeSum, step n (M.view.readCov (sumPieces M step n) wholeSum.toLoadRect)⟩ :: sumPieces M step n

/-- What is read back of it. -/
def sumRead (M : Memref sig .tc .vmem S128x256 .f32) (step : ℕ → Vec F S128x256 .f32 → FVec F S128x256 .f32) (n : ℕ) : Vec F S128x256 .f32 :=
  M.view.readCov (sumPieces M step n) wholeSum.toLoadRect

/-- The recursion a running sum follows. -/
def sumAfter (step : ℕ → Vec F S128x256 .f32 → FVec F S128x256 .f32) : ℕ → Vec F S128x256 .f32
  | 0 => zeroSum
  | n + 1 => step n (sumAfter step n)

/-- What is read back follows the recursion. -/
theorem sumRead_eq (M : Memref sig .tc .vmem S128x256 .f32) (step : ℕ → Vec F S128x256 .f32 → FVec F S128x256 .f32) :
    ∀ n, sumRead M step n = sumAfter step n
  | 0 => View.readCov_cons_toLoadRect _ _ _ _
  | n + 1 => by
    have e : sumRead M step (n + 1) = step n (sumRead M step n) := View.readCov_cons_toLoadRect _ _ _ _
    rw [e, sumRead_eq M step n]; rfl

section Run

variable (c : Dev nD) (i : grid0.Coords) (arg1 : Memref sig .tc .smem S24x16 .f32) (harg1 : arg1.IsWhole)
  (arg2 : Memref sig .tc .smem S24x16 .f32) (harg2 : arg2.IsWhole) (arg3 : Memref sig .tc .smem S24x16 .f32) (harg3 : arg3.IsWhole)
  (arg4 : Memref sig .tc .vmem S1x1024x128 .fp8e4m3) (harg4 : arg4.IsWhole) (arg5 : Memref sig .tc .vmem S1x1024x128 .fp8e4m3) (harg5 : arg5.IsWhole)
  (arg6 : Memref sig .tc .vmem S1x1024x256 .fp8e4m3) (harg6 : arg6.IsWhole) (arg7 : Memref sig .tc .vmem S1x1024x256 .fp8e5m2) (harg7 : arg7.IsWhole)
  (arg8 : Memref sig .tc .vmem S1x8x128 .f32) (harg8 : arg8.IsWhole) (arg9 : Memref sig .tc .vmem S1x1024x128 .bf16) (harg9 : arg9.IsWhole)
  (arg10 : Memref sig .tc .vmem S1x1024x128 .bf16) (harg10 : arg10.IsWhole) (arg11 : Memref sig .tc .vmem S1x1024x256 .bf16) (harg11 : arg11.IsWhole)
  (arg12 : Memref sig .tc .vmem S128x256 .f32) (harg12 : arg12.IsWhole) (arg13 : Memref sig .tc .vmem S128x256 .f32) (harg13 : arg13.IsWhole)
  (arg14 : Memref sig .tc .vmem S1024x128 .f32) (harg14 : arg14.IsWhole)
  (x0 x1 x2 : Vec F S24x16 .f32) (x3 x4 : Vec F S1x1024x128 .fp8e4m3) (x5 : Vec F S1x1024x256 .fp8e4m3) (x6 : Vec F S1x1024x256 .fp8e5m2)
  (x7 : Vec F S1x8x128 .f32)

/-- One chunk's step of the sum `s`, of what it loads. -/
def stepS (n : ℕ) : Vec F S128x256 .f32 → FVec F S128x256 .f32 :=
  sNext (ldScale i arg2 harg2 x1 (ck n)) (ldScale i arg3 harg3 x2 (ck n)) (ld256 arg6 harg6 x5 (ck n)) (ld128 arg5 harg5 x4 (ck n))

/-- One chunk's step of the sum `ds`, which is made from the last chunk down. -/
def stepDs (n : ℕ) : Vec F S128x256 .f32 → FVec F S128x256 .f32 :=
  dsNext (ldScale i arg1 harg1 x0 (ck (15 - n))) (ld128 arg4 harg4 x3 (ck (15 - n))) (ld256 arg7 harg7 x6 (ck (15 - n)))
    (ldRow arg8 harg8 x7 (ck (15 - n)))

/-- The store into `dq` at chunk `n`; -/
def dqPiece (n : ℕ) : View.Piece (Elt F) S1x1024x128 .bf16 :=
  ⟨Rect.unit ![0, 64 * (ck n).val, 0] S1x64x128.size (inb128 (ck n)),
    dqBlock (ldScale i arg2 harg2 x1 (ck n)) (ldScale i arg3 harg3 x2 (ck n)) (ld256 arg7 harg7 x6 (ck n)) (ld256 arg6 harg6 x5 (ck n))
      (ld128 arg5 harg5 x4 (ck n)) (ldCol arg14 arg8 harg8 x7 (ck n))
      (sumRead arg12 (stepS i arg2 harg2 arg3 harg3 arg5 harg5 arg6 harg6 x1 x2 x4 x5) n)⟩

/-- into `dk`; -/
def dkPiece (n : ℕ) : View.Piece (Elt F) S1x1024x128 .bf16 :=
  ⟨Rect.unit ![0, 64 * (ck n).val, 0] S1x64x128.size (inb128 (ck n)),
    dkBlock (ldScale i arg1 harg1 x0 (ck n)) (ldScale i arg3 harg3 x2 (ck n)) (ld128 arg4 harg4 x3 (ck n)) (ld256 arg6 harg6 x5 (ck n))
      (ld256 arg7 harg7 x6 (ck n)) (ldRow arg8 harg8 x7 (ck n))
      (sumRead arg13 (stepDs i arg1 harg1 arg4 harg4 arg7 harg7 arg8 harg8 x0 x3 x6 x7) (15 - n))⟩

/-- into `dv`. -/
def dvPiece (n : ℕ) : View.Piece (Elt F) S1x1024x256 .bf16 :=
  ⟨Rect.unit ![0, 64 * (ck n).val, 0] S1x64x256.size (inb256 (ck n)),
    dvBlock (ldScale i arg1 harg1 x0 (ck n)) (ldScale i arg2 harg2 x1 (ck n)) (ld128 arg4 harg4 x3 (ck n)) (ld128 arg5 harg5 x4 (ck n))
      (ld256 arg7 harg7 x6 (ck n)) (ldRow arg8 harg8 x7 (ck n))
      (sumRead arg13 (stepDs i arg1 harg1 arg4 harg4 arg7 harg7 arg8 harg8 x0 x3 x6 x7) (15 - n))⟩

/-- The body's stores into `dq`, last first. -/
theorem run_dq : (kernelRun0_A c i arg1 harg1 arg2 harg2 arg3 harg3 arg4 harg4 arg5 harg5 arg6 harg6 arg7 harg7 arg8 harg8 arg9 harg9 arg10 harg10
      arg11 harg11 arg12 harg12 arg13 harg13 arg14 harg14 x0 x1 x2 x3 x4 x5 x6 x7).1
    = [15, 14, 13, 12, 11, 10, 9, 8, 7, 6, 5, 4, 3, 2, 1, 0].map
        (dqPiece i arg2 harg2 arg3 harg3 arg5 harg5 arg6 harg6 arg7 harg7 arg8 harg8 arg12 arg14 x1 x2 x4 x5 x6 x7) := rfl

/-- Into `dk`. -/
theorem run_dk : (kernelRun0_A c i arg1 harg1 arg2 harg2 arg3 harg3 arg4 harg4 arg5 harg5 arg6 harg6 arg7 harg7 arg8 harg8 arg9 harg9 arg10 harg10
      arg11 harg11 arg12 harg12 arg13 harg13 arg14 harg14 x0 x1 x2 x3 x4 x5 x6 x7).2.1
    = [0, 1, 2, 3, 4, 5, 6, 7, 8, 9, 10, 11, 12, 13, 14, 15].map
        (dkPiece i arg1 harg1 arg3 harg3 arg4 harg4 arg6 harg6 arg7 harg7 arg8 harg8 arg13 x0 x2 x3 x5 x6 x7) := rfl

/-- Into `dv`. -/
theorem run_dv : (kernelRun0_A c i arg1 harg1 arg2 harg2 arg3 harg3 arg4 harg4 arg5 harg5 arg6 harg6 arg7 harg7 arg8 harg8 arg9 harg9 arg10 harg10
      arg11 harg11 arg12 harg12 arg13 harg13 arg14 harg14 x0 x1 x2 x3 x4 x5 x6 x7).2.2.1
    = [0, 1, 2, 3, 4, 5, 6, 7, 8, 9, 10, 11, 12, 13, 14, 15].map
        (dvPiece i arg1 harg1 arg2 harg2 arg4 harg4 arg5 harg5 arg7 harg7 arg8 harg8 arg13 x0 x1 x3 x4 x6 x7) := rfl

end Run

end Cert.KernelIdeal.Chunk

end
-- ==== Proof.Head.lean ====
/-
  One head, as plain mathematics: its rows cut into 16 chunks of 64, what the kernel computes of them, what the reference
  computes, and that the two are equal when the scales of `k`, `v` and `dO` are nonnegative and finite. Nothing here
  mentions a program.
-/
module

public import Mathlib.Data.EReal.Inv
public import Mathlib.Algebra.BigOperators.Ring.Finset
public import Mathlib.Algebra.BigOperators.Group.Finset.Basic

@[expose] public section

noncomputable section

namespace Cert.Head

/-- One head's data: `q`, `k`, `v`, `dO` by chunk, row and column, the scale `r` of each row of `dO`, and the chunks' scales
    of `q`, `k`, `v`. -/
structure Head where
  /-- the queries -/
  q : Fin 16 → Fin 64 → Fin 128 → EReal
  /-- the keys -/
  k : Fin 16 → Fin 64 → Fin 128 → EReal
  /-- the values -/
  v : Fin 16 → Fin 64 → Fin 256 → EReal
  /-- the cotangent of the output -/
  o : Fin 16 → Fin 64 → Fin 256 → EReal
  /-- the cotangent's scales -/
  r : Fin 16 → Fin 64 → EReal
  /-- the queries' scales -/
  qs : Fin 16 → EReal
  /-- the keys' scales -/
  ks : Fin 16 → EReal
  /-- the values' scales -/
  vs : Fin 16 → EReal

variable (H : Head) (σ : EReal) (n : Fin 16) (t : Fin 64)

/-- The scales that must be tame are nonnegative and finite. -/
structure Head.Tame : Prop where
  /-- the cotangent's -/
  r : ∀ n t, 0 ≤ H.r n t ∧ H.r n t ≠ ⊤
  /-- the keys' -/
  ks : ∀ n, 0 ≤ H.ks n ∧ H.ks n ≠ ⊤
  /-- the values' -/
  vs : ∀ n, 0 ≤ H.vs n ∧ H.vs n ≠ ⊤

/-- What the chunks before `n` add up to: `S`, the same in both programs. -/
def S (d : Fin 128) (e : Fin 256) : EReal :=
  ∑ m : Fin 16, if m < n then (∑ x, H.k m x d * H.v m x e) * (H.ks m * H.vs m) else 0

/-- What the chunks after `n` add up to, as the kernel has it; -/
def kdS (d : Fin 128) (e : Fin 256) : EReal :=
  ∑ m : Fin 16, if n < m then ∑ x, H.q m x d * H.qs m * H.r m x * H.o m x e else 0

/-- as the reference has it. -/
def rdS (d : Fin 128) (e : Fin 256) : EReal :=
  ∑ m : Fin 16, if n < m then ∑ x, H.q m x d * H.qs m * (H.o m x e * H.r m x) else 0

/-- The kernel's `dq`; -/
def kdq (d : Fin 128) : EReal :=
  ((∑ x, H.o n t x * S H n d x) * H.r n t
    + (∑ x : Fin 64, if x ≤ t then (∑ y, H.o n t y * H.v n x y) * H.r n t * H.vs n * H.k n x d else 0) * H.ks n) * σ

/-- the reference's. -/
def rdq (d : Fin 128) : EReal :=
  ((∑ x, H.o n t x * H.r n t * S H n d x)
    + ∑ x : Fin 64, (if x ≤ t then (∑ y, H.o n t y * H.v n x y) * H.r n t * H.vs n else 0) * (H.k n x d * H.ks n)) * σ

/-- The kernel's `dk`; -/
def kdk (d : Fin 128) : EReal :=
  ((∑ x, H.v n t x * kdS H n d x) * H.vs n
    + ∑ x : Fin 64, if t ≤ x then (∑ y, H.v n t y * H.o n x y) * (H.r n x * H.vs n) * (H.q n x d * H.qs n) else 0) * σ

/-- the reference's. -/
def rdk (d : Fin 128) : EReal :=
  ((∑ x, H.v n t x * H.vs n * rdS H n d x)
    + ∑ x : Fin 64, (if t ≤ x then (∑ y, H.o n x y * H.v n t y) * H.r n x * H.vs n else 0) * (H.q n x d * H.qs n)) * σ

/-- The kernel's `dv`; -/
def kdv (e : Fin 256) : EReal :=
  ((∑ x, H.k n t x * H.ks n * kdS H n x e)
    + ∑ x : Fin 64, if t ≤ x then (∑ y, H.k n t y * H.q n x y) * (H.qs n * H.ks n) * H.r n x * H.o n x e else 0) * σ

/-- the reference's. -/
def rdv (e : Fin 256) : EReal :=
  ((∑ x, H.k n t x * H.ks n * rdS H n x e)
    + ∑ x : Fin 64, (if t ≤ x then (∑ y, H.q n x y * H.k n t y) * (H.qs n * H.ks n) else 0) * (H.o n x e * H.r n x)) * σ

/-- A nonnegative finite factor passes through a sum. -/
theorem sum_mul_tame {ι : Type} (s : Finset ι) (f : ι → EReal) {c : EReal} (hc : 0 ≤ c ∧ c ≠ ⊤) :
    (∑ x ∈ s, f x) * c = ∑ x ∈ s, f x * c := by
  classical
  induction s using Finset.induction_on with
  | empty => simp
  | insert a s ha ih => rw [Finset.sum_insert ha, Finset.sum_insert ha, EReal.right_distrib_of_nonneg_of_ne_top hc.1 hc.2, ih]

/-- The two forms of `dS` differ in the order of the factors only. -/
theorem kdS_eq (d : Fin 128) (e : Fin 256) : kdS H n d e = rdS H n d e := by
  refine Finset.sum_congr rfl fun m _ => ?_
  split
  · exact Finset.sum_congr rfl fun x _ => by rw [mul_assoc, mul_comm (H.r m x)]
  · rfl

/-- `dq` agrees: the scales of `dO` and of `k` pass through the sums. -/
theorem kdq_eq (hH : H.Tame) (d : Fin 128) : kdq H σ n t d = rdq H σ n t d := by
  unfold kdq rdq
  rw [sum_mul_tame _ _ (hH.r n t), sum_mul_tame _ _ (hH.ks n)]
  refine congrArg (· * σ) (congrArg₂ (· + ·) (Finset.sum_congr rfl fun x _ => ?_) (Finset.sum_congr rfl fun x _ => ?_))
  · rw [mul_assoc, mul_comm (S H n d x), mul_assoc]
  · split
    · rw [mul_assoc _ (H.k n x d)]
    · rw [zero_mul, zero_mul]

/-- `dk` agrees: the scale of `v` passes through the sum. -/
theorem kdk_eq (hH : H.Tame) (d : Fin 128) : kdk H σ n t d = rdk H σ n t d := by
  unfold kdk rdk
  rw [sum_mul_tame _ _ (hH.vs n)]
  refine congrArg (· * σ) (congrArg₂ (· + ·) (Finset.sum_congr rfl fun x _ => ?_) (Finset.sum_congr rfl fun x _ => ?_))
  · rw [kdS_eq, mul_assoc, mul_comm (rdS H n d x), mul_assoc]
  · split
    · rw [Finset.sum_congr rfl fun y _ => mul_comm (H.v n t y) (H.o n x y), ← mul_assoc _ (H.r n x) (H.vs n)]
    · rw [zero_mul]

/-- `dv` agrees; no scale needs to be tame. -/
theorem kdv_eq (e : Fin 256) : kdv H σ n t e = rdv H σ n t e := by
  unfold kdv rdv
  refine congrArg (· * σ) (congrArg₂ (· + ·) (Finset.sum_congr rfl fun x _ => ?_) (Finset.sum_congr rfl fun x _ => ?_))
  · rw [kdS_eq]
  · split
    · rw [Finset.sum_congr rfl fun y _ => mul_comm (H.k n t y) (H.q n x y), mul_assoc _ (H.r n x), mul_comm (H.r n x)]
    · rw [zero_mul]

end Cert.Head

end
-- ==== Proof.Loads.lean ====
/-
  What a head loads, and its two running sums, read at an index: the head's mathematics (Proof/Head.lean) of its blocks.
-/
module

public import proofs.«01_k».proof.Proof.ChunkAt
public import proofs.«01_k».proof.Proof.Pieces
public import proofs.«01_k».proof.Proof.Head
public import Idealize.ShloMosaic.Lib.Pipeline.Value
public import Idealize.ShloMosaic.Lib.Pipeline.ValueKit
public import Idealize.ShloMosaic.Lib.Pipeline.CanonAppend

@[expose] public section

set_option maxRecDepth 16384

noncomputable section

namespace Cert.KernelIdeal.Chunk

open Idealize.ShloMosaic Idealize.ShloMosaic.Pointwise Cert.KernelIdeal.Gen Cert.Head

/-- Row `t` of chunk `n`. -/
def row (n : Fin 16) (t : Fin 64) : Fin 1024 := ⟨n.val * 64 + t.val, by omega⟩

/-- Where the scale of a row stands in the eight rows of 128 that hold a head's scales. -/
def rowHi (n : Fin 16) : Fin 8 := ⟨n.val / 2, by omega⟩
def rowLo (n : Fin 16) (t : Fin 64) : Fin 128 := ⟨n.val % 2 * 64 + t.val, by omega⟩

/-- Head `j` of the blocks the body is given. -/
def blockHead (j : Fin 24) (x0 x1 x2 : Vec Ideal S24x16 .f32) (x3 x4 : Vec Ideal S1x1024x128 .fp8e4m3)
    (x5 : Vec Ideal S1x1024x256 .fp8e4m3) (x6 : Vec Ideal S1x1024x256 .fp8e5m2) (x7 : Vec Ideal S1x8x128 .f32) : Head where
  q n t d := x3 (ix3 0 (row n t) d)
  k n t d := x4 (ix3 0 (row n t) d)
  v n t d := x5 (ix3 0 (row n t) d)
  o n t d := x6 (ix3 0 (row n t) d)
  r n t := x7 (ix3 0 (rowHi n) (rowLo n t))
  qs n := x0 (ix2 j n)
  ks n := x1 (ix2 j n)
  vs n := x2 (ix2 j n)

/-- The rows of a chunk, 128 wide; -/
theorem ld128_at {e : EltTy} (M : Memref sig .tc .vmem S1x1024x128 e) (h : M.IsWhole) (x : Vec Ideal S1x1024x128 e) (n : Fin 16)
    (t : Fin 64) (d : Fin 128) : ld128 M h x n (ix3 0 t d) = x (ix3 0 (row n t) d) := by
  unfold ld128
  rw [View.readAt_eq_ld, h.read_unread]
  refine View.ld_unit_apply_of x _ _ _ _ _ fun a => ?_
  match a with
  | ⟨0, _⟩ => rfl
  | ⟨1, _⟩ => exact congrArg (· + t.val) (Nat.mul_comm n.val 64)
  | ⟨2, _⟩ => exact (Nat.zero_add _).symm

/-- 256 wide. -/
theorem ld256_at {e : EltTy} (M : Memref sig .tc .vmem S1x1024x256 e) (h : M.IsWhole) (x : Vec Ideal S1x1024x256 e) (n : Fin 16)
    (t : Fin 64) (d : Fin 256) : ld256 M h x n (ix3 0 t d) = x (ix3 0 (row n t) d) := by
  unfold ld256
  rw [View.readAt_eq_ld, h.read_unread]
  refine View.ld_unit_apply_of x _ _ _ _ _ fun a => ?_
  match a with
  | ⟨0, _⟩ => rfl
  | ⟨1, _⟩ => exact congrArg (· + t.val) (Nat.mul_comm n.val 64)
  | ⟨2, _⟩ => exact (Nat.zero_add _).symm

/-- The scales of a chunk's rows, along the lanes. -/
theorem ldRow_at (M : Memref sig .tc .vmem S1x8x128 .f32) (h : M.IsWhole) (x : Vec Ideal S1x8x128 .f32) (n : Fin 16) (t : Fin 64) :
    ldRow M h x n (ix3 0 0 t) = x (ix3 0 (rowHi n) (rowLo n t)) := by
  unfold ldRow
  rw [View.readAt_eq_ld, h.read_unread]
  refine View.ld_unit_apply_of x _ _ _ _ _ fun a => ?_
  match a with
  | ⟨0, _⟩ => rfl
  | ⟨1, _⟩ => rfl
  | ⟨2, _⟩ => rfl

/-- The scale's place is the head's row and the chunk's column. -/
theorem offScale_eq : ∀ (i : grid0.Coords) (n : Fin 16), offScale i n = ![(i 0).val, n.val] := by
  have h : ∀ j : Fin 24, (Scalar.indexCast (BitVec.ofNat 32 j.val) : Index).toNat = j.val := by decide +kernel
  intro i n
  unfold offScale
  rw [h (i 0)]

/-- The head a grid point works on. -/
def headAt (i : grid0.Coords) : Fin 24 := i 0

/-- A chunk's scale. -/
theorem ldScale_at (i : grid0.Coords) (M : Memref sig .tc .smem S24x16 .f32) (h : M.IsWhole) (x : Vec Ideal S24x16 .f32) (n : Fin 16) :
    ldScale i M h x n = x (ix2 (headAt i) n) := by
  unfold ldScale
  rw [View.readAt_eq_ld, h.read_unread]
  refine View.ld_unit_apply_of x _ _ _ _ _ fun a => ?_
  have e := congrFun (offScale_eq i n) a
  match a with
  | ⟨0, _⟩ => exact e.symm
  | ⟨1, _⟩ => exact e.symm

/-- The buffer of columns: every lane of a row holds the row's scale. -/
def columns (x : Vec Ideal S1x8x128 .f32) : Vec Ideal S1024x128 .f32 := fun y =>
  x (ix3 0 ⟨(y 0).val / 128, Nat.div_lt_of_lt_mul (y 0).isLt⟩ ⟨(y 0).val % 128, Nat.mod_lt _ (by decide)⟩)

/-- One store's tile is the columns' tile. -/
theorem colTile_eq (M : Memref sig .tc .vmem S1x8x128 .f32) (h : M.IsWhole) (x : Vec Ideal S1x8x128 .f32) (r : Fin 8) (z : S128x128.Idx) :
    colTile (M.view.readAt (Elt Ideal) (Rect.unit (s := S1x8x128) ![0, r.val, 0] S1x1x128.size (inbLanes r)).toLoadRect (h.unread x)) z
      = columns x ((Rect.unit (s := S1024x128) ![128 * r.val, 0] S128x128.size (inbTile r)).emb z) := by
  have hz0 : (z 0).val < 128 := (z 0).isLt
  refine (congrArg (colTile _) (eq_ix2 (n0 := 128) (n1 := 128) z)).trans ((colTile_at _ (z 0) (z 1)).trans ?_)
  rw [View.readAt_eq_ld, h.read_unread]
  refine View.ld_unit_apply_of x _ _ _ _ _ fun a => ?_
  match a with
  | ⟨0, _⟩ => rfl
  | ⟨1, _⟩ =>
    show (128 * r.val + 1 * (z 0).val) / 128 = r.val + 0
    omega
  | ⟨2, _⟩ =>
    show (128 * r.val + 1 * (z 0).val) % 128 = 0 + (z 0).val
    omega

/-- The eight stores fill it. -/
theorem colPieces_canon (M : Memref sig .tc .vmem S1x8x128 .f32) (h : M.IsWhole) (x : Vec Ideal S1x8x128 .f32) (y : S1024x128.Idx) :
    View.canon (colPieces M h x) y = columns x y := by
  have hy0 : (y 0).val < 1024 := (y 0).isLt
  refine (congrArg (fun L => View.canon L y) (List.append_nil _).symm).trans
    (View.canon_append_of_pieces (columns x) [] (colPieces M h x) (fun p hp z => ?_) y ?_)
  · obtain ⟨r, _, rfl⟩ := List.mem_map.1 hp
    exact colTile_eq M h x r z
  · refine ⟨_, List.mem_map_of_mem (a := (⟨(y 0).val / 128, Nat.div_lt_of_lt_mul (y 0).isLt⟩ : Fin 8))
      ((by decide : ∀ r : Fin 8, r ∈ [(7 : Fin 8), 6, 5, 4, 3, 2, 1, 0]) _), ?_⟩
    refine (Rect.mem_set_unit (s := S1024x128) (inb := inbTile ⟨(y 0).val / 128, Nat.div_lt_of_lt_mul (y 0).isLt⟩)).2 fun a => ?_
    match a with
    | ⟨0, _⟩ =>
      show 128 * ((y 0).val / 128) ≤ (y 0).val ∧ (y 0).val < 128 * ((y 0).val / 128) + 128
      omega
    | ⟨1, _⟩ => exact ⟨Nat.zero_le _, Nat.lt_of_lt_of_eq (y 1).isLt (Nat.zero_add 128).symm⟩

/-- The scales of a chunk's rows as columns. -/
theorem ldCol_at (M14 : Memref sig .tc .vmem S1024x128 .f32) (M : Memref sig .tc .vmem S1x8x128 .f32) (h : M.IsWhole)
    (x : Vec Ideal S1x8x128 .f32) (n : Fin 16) (t : Fin 64) (l : Fin 128) :
    ldCol M14 M h x n (ix2 t l) = x (ix3 0 (rowHi n) (rowLo n t)) := by
  unfold ldCol
  rw [View.readCov_eq_canon']
  refine (colPieces_canon M h x _).trans (congrArg x (congrArg₂ (ix3 0) (Fin.ext ?_) (Fin.ext ?_)))
  · show (64 * n.val + 1 * t.val) / 128 = n.val / 2
    omega
  · show (64 * n.val + 1 * t.val) % 128 = n.val % 2 * 64 + t.val
    omega

section Sums

variable (i : grid0.Coords) (arg1 : Memref sig .tc .smem S24x16 .f32) (harg1 : arg1.IsWhole)
  (arg2 : Memref sig .tc .smem S24x16 .f32) (harg2 : arg2.IsWhole) (arg3 : Memref sig .tc .smem S24x16 .f32) (harg3 : arg3.IsWhole)
  (arg4 : Memref sig .tc .vmem S1x1024x128 .fp8e4m3) (harg4 : arg4.IsWhole) (arg5 : Memref sig .tc .vmem S1x1024x128 .fp8e4m3) (harg5 : arg5.IsWhole)
  (arg6 : Memref sig .tc .vmem S1x1024x256 .fp8e4m3) (harg6 : arg6.IsWhole) (arg7 : Memref sig .tc .vmem S1x1024x256 .fp8e5m2) (harg7 : arg7.IsWhole)
  (arg8 : Memref sig .tc .vmem S1x8x128 .f32) (harg8 : arg8.IsWhole)
  (x0 x1 x2 : Vec Ideal S24x16 .f32) (x3 x4 : Vec Ideal S1x1024x128 .fp8e4m3) (x5 : Vec Ideal S1x1024x256 .fp8e4m3)
  (x6 : Vec Ideal S1x1024x256 .fp8e5m2) (x7 : Vec Ideal S1x8x128 .f32)

/-- The head the body works on. -/
abbrev theHead : Head := blockHead (headAt i) x0 x1 x2 x3 x4 x5 x6 x7

/-- A sum whose step adds a term is the sum of the terms. -/
theorem sumAfter_at (step : ℕ → Vec Ideal S128x256 .f32 → FVec Ideal S128x256 .f32) (f : ℕ → EReal) (d : Fin 128) (e : Fin 256)
    (h : ∀ n s, step n s (ix2 d e) = s (ix2 d e) + f n) (n : ℕ) : sumAfter step n (ix2 d e) = ∑ m ∈ Finset.range n, f m := by
  induction n with
  | zero => exact zeroSum_at d e
  | succ n ih =>
    rw [Finset.sum_range_succ, ← ih]
    exact h n _

theorem ck_val (n : Fin 16) : ck n.val = n := Fin.ext (Nat.mod_eq_of_lt n.isLt)

/-- The first `n` chunks. -/
theorem sum_first (f : Fin 16 → EReal) (n : Fin 16) : ∑ m ∈ Finset.range n.val, f (ck m) = ∑ m : Fin 16, if m < n then f m else 0 := by
  rw [← Finset.sum_filter]
  refine Finset.sum_nbij' (fun m => ck m) (fun m => m.val) ?_ ?_ ?_ ?_ ?_
  all_goals intro a ha; simp only [Finset.mem_filter, Finset.mem_univ, true_and, Finset.mem_range, Fin.lt_def, ck] at ha ⊢
  · omega
  · omega
  · omega
  · exact Fin.ext (Nat.mod_eq_of_lt (by omega))

/-- The last `15 - n`, from the last down. -/
theorem sum_last (f : Fin 16 → EReal) (n : Fin 16) :
    ∑ m ∈ Finset.range (15 - n.val), f (ck (15 - m)) = ∑ m : Fin 16, if n < m then f m else 0 := by
  rw [← Finset.sum_filter]
  refine Finset.sum_nbij' (fun m => ck (15 - m)) (fun m => 15 - m.val) ?_ ?_ ?_ ?_ ?_
  all_goals intro a ha; simp only [Finset.mem_filter, Finset.mem_univ, true_and, Finset.mem_range, Fin.lt_def, ck] at ha ⊢
  · omega
  · omega
  · omega
  · exact Fin.ext (by simp only []; omega)

/-- What one chunk adds to `s`; -/
def sTerm (H : Head) (d : Fin 128) (e : Fin 256) (m : Fin 16) : EReal := (∑ x, H.k m x d * H.v m x e) * (H.ks m * H.vs m)

/-- to `ds`. -/
def dsTerm (H : Head) (d : Fin 128) (e : Fin 256) (m : Fin 16) : EReal := ∑ x, H.q m x d * H.qs m * H.r m x * H.o m x e

/-- The sum `s` before chunk `n`. -/
theorem sum_s_at (n : Fin 16) (d : Fin 128) (e : Fin 256) :
    sumAfter (stepS i arg2 harg2 arg3 harg3 arg5 harg5 arg6 harg6 x1 x2 x4 x5) n.val (ix2 d e)
      = S (theHead i x0 x1 x2 x3 x4 x5 x6 x7) n d e := by
  refine (sumAfter_at _ (fun m => sTerm (theHead i x0 x1 x2 x3 x4 x5 x6 x7) d e (ck m)) d e (fun m s => ?_) n.val).trans (sum_first _ n)
  unfold stepS
  rw [sNext_at]
  simp only [ld128_at, ld256_at, ldScale_at]
  rfl

/-- The sum `ds` before chunk `n`, which is made from the last chunk down. -/
theorem sum_ds_at (n : Fin 16) (d : Fin 128) (e : Fin 256) :
    sumAfter (stepDs i arg1 harg1 arg4 harg4 arg7 harg7 arg8 harg8 x0 x3 x6 x7) (15 - n.val) (ix2 d e)
      = kdS (theHead i x0 x1 x2 x3 x4 x5 x6 x7) n d e := by
  refine (sumAfter_at _ (fun m => dsTerm (theHead i x0 x1 x2 x3 x4 x5 x6 x7) d e (ck (15 - m))) d e (fun m s => ?_) (15 - n.val)).trans
    (sum_last _ n)
  unfold stepDs
  rw [dsNext_at]
  simp only [ld128_at, ld256_at, ldScale_at, ldRow_at]
  rfl

end Sums

end Cert.KernelIdeal.Chunk

end
-- ==== Proof.HeadAt.lean ====
/-
  What one grid point leaves in each result's block: the kernel's head mathematics (Proof/Head.lean) of the blocks it is given.
-/
module

public import proofs.«01_k».proof.Proof.Loads

@[expose] public section

set_option maxRecDepth 16384

noncomputable section

namespace Cert.KernelIdeal.Chunk

open Idealize.ShloMosaic Idealize.ShloMosaic.Pointwise Cert.KernelIdeal.Gen Cert.Head

/-- The chunk a row lies in, and its place there. -/
abbrev chunkOf (t : Fin 1024) : Fin 16 := ⟨t.val / 64, by omega⟩
abbrev posOf (t : Fin 1024) : Fin 64 := ⟨t.val % 64, by omega⟩

theorem chunkOf_row (n : Fin 16) (t : Fin 64) : chunkOf (row n t) = n := Fin.ext (by simp only [row]; omega)
theorem posOf_row (n : Fin 16) (t : Fin 64) : posOf (row n t) = t := Fin.ext (by simp only [row]; omega)

/-- Sixteen stores of 64 rows each, each right, make the block right: 128 wide; -/
theorem canon128 (L : List ℕ) (hL : ∀ n ∈ L, n < 16) (hL' : ∀ n : Fin 16, n.val ∈ L) (f : ℕ → Vec Ideal S1x64x128 .bf16)
    (G : Fin 16 → Fin 64 → Fin 128 → EReal) (h : ∀ (n : Fin 16) t d, f n.val (ix3 0 t d) = G n t d) (y : S1x1024x128.Idx) :
    View.canon (Val := Elt Ideal) (e := .bf16)
        (L.map fun n => (⟨Rect.unit (s := S1x1024x128) ![0, 64 * (ck n).val, 0] S1x64x128.size (inb128 (ck n)), f n⟩ : View.Piece (Elt Ideal) S1x1024x128 .bf16)) y
      = G (chunkOf (y 1)) (posOf (y 1)) (y 2) := by
  have hy1 : (y 1).val < 1024 := (y 1).isLt
  refine (congrArg (fun L => View.canon L y) (List.append_nil _).symm).trans
    (View.canon_append_of_pieces (Val := Elt Ideal) (e := .bf16) (fun y : S1x1024x128.Idx => G (chunkOf (y 1)) (posOf (y 1)) (y 2)) [] _ (fun p hp z => ?_) y ?_)
  · obtain ⟨n, hn, rfl⟩ := List.mem_map.1 hp
    obtain ⟨n, rfl⟩ : ∃ k : Fin 16, k.val = n := ⟨⟨n, hL n hn⟩, rfl⟩
    have key : ∀ z : S1x64x128.Idx, f n.val z = G n (z 1) (z 2) := fun z => by
      have e : z = ix3 0 (z 1) (z 2) := by
        refine (eq_ix3 (n0 := 1) (n1 := 64) (n2 := 128) z).trans ?_
        exact congrArg (fun i => ix3 i (z 1) (z 2)) (Subsingleton.elim (α := Fin 1) _ _)
      exact (congrArg (f n.val) e).trans (h n (z 1) (z 2))
    refine (key z).trans ?_
    have hz1 : (z 1).val < 64 := (z 1).isLt
    have e1 : n.val = (64 * (ck n.val).val + 1 * (z 1).val) / 64 := by rw [ck_val]; omega
    have e2 : (z 1).val = (64 * (ck n.val).val + 1 * (z 1).val) % 64 := by omega
    have e3 : (z 2).val = 0 + 1 * (z 2).val := by omega
    exact congr (congr (congrArg G (Fin.ext e1)) (Fin.ext e2)) (Fin.ext e3)
  · refine ⟨_, List.mem_map_of_mem (hL' (chunkOf (y 1))), ?_⟩
    refine (Rect.mem_set_unit (s := S1x1024x128) (inb := inb128 (ck (chunkOf (y 1)).val))).2 fun a => ?_
    rw [ck_val]
    match a with
    | ⟨0, _⟩ => exact ⟨Nat.zero_le _, Nat.lt_of_lt_of_eq (y 0).isLt (Nat.zero_add 1).symm⟩
    | ⟨1, _⟩ =>
      show 64 * ((y 1).val / 64) ≤ (y 1).val ∧ (y 1).val < 64 * ((y 1).val / 64) + 64
      omega
    | ⟨2, _⟩ => exact ⟨Nat.zero_le _, Nat.lt_of_lt_of_eq (y 2).isLt (Nat.zero_add 128).symm⟩

/-- 256 wide. -/
theorem canon256 (L : List ℕ) (hL : ∀ n ∈ L, n < 16) (hL' : ∀ n : Fin 16, n.val ∈ L) (f : ℕ → Vec Ideal S1x64x256 .bf16)
    (G : Fin 16 → Fin 64 → Fin 256 → EReal) (h : ∀ (n : Fin 16) t d, f n.val (ix3 0 t d) = G n t d) (y : S1x1024x256.Idx) :
    View.canon (Val := Elt Ideal) (e := .bf16)
        (L.map fun n => (⟨Rect.unit (s := S1x1024x256) ![0, 64 * (ck n).val, 0] S1x64x256.size (inb256 (ck n)), f n⟩ : View.Piece (Elt Ideal) S1x1024x256 .bf16)) y
      = G (chunkOf (y 1)) (posOf (y 1)) (y 2) := by
  have hy1 : (y 1).val < 1024 := (y 1).isLt
  refine (congrArg (fun L => View.canon L y) (List.append_nil _).symm).trans
    (View.canon_append_of_pieces (Val := Elt Ideal) (e := .bf16) (fun y : S1x1024x256.Idx => G (chunkOf (y 1)) (posOf (y 1)) (y 2)) [] _ (fun p hp z => ?_) y ?_)
  · obtain ⟨n, hn, rfl⟩ := List.mem_map.1 hp
    obtain ⟨n, rfl⟩ : ∃ k : Fin 16, k.val = n := ⟨⟨n, hL n hn⟩, rfl⟩
    have key : ∀ z : S1x64x256.Idx, f n.val z = G n (z 1) (z 2) := fun z => by
      have e : z = ix3 0 (z 1) (z 2) := by
        refine (eq_ix3 (n0 := 1) (n1 := 64) (n2 := 256) z).trans ?_
        exact congrArg (fun i => ix3 i (z 1) (z 2)) (Subsingleton.elim (α := Fin 1) _ _)
      exact (congrArg (f n.val) e).trans (h n (z 1) (z 2))
    refine (key z).trans ?_
    have hz1 : (z 1).val < 64 := (z 1).isLt
    have e1 : n.val = (64 * (ck n.val).val + 1 * (z 1).val) / 64 := by rw [ck_val]; omega
    have e2 : (z 1).val = (64 * (ck n.val).val + 1 * (z 1).val) % 64 := by omega
    have e3 : (z 2).val = 0 + 1 * (z 2).val := by omega
    exact congr (congr (congrArg G (Fin.ext e1)) (Fin.ext e2)) (Fin.ext e3)
  · refine ⟨_, List.mem_map_of_mem (hL' (chunkOf (y 1))), ?_⟩
    refine (Rect.mem_set_unit (s := S1x1024x256) (inb := inb256 (ck (chunkOf (y 1)).val))).2 fun a => ?_
    rw [ck_val]
    match a with
    | ⟨0, _⟩ => exact ⟨Nat.zero_le _, Nat.lt_of_lt_of_eq (y 0).isLt (Nat.zero_add 1).symm⟩
    | ⟨1, _⟩ =>
      show 64 * ((y 1).val / 64) ≤ (y 1).val ∧ (y 1).val < 64 * ((y 1).val / 64) + 64
      omega
    | ⟨2, _⟩ => exact ⟨Nat.zero_le _, Nat.lt_of_lt_of_eq (y 2).isLt (Nat.zero_add 256).symm⟩

section Blocks

variable (c : Dev nD) (i : grid0.Coords) (arg1 : Memref sig .tc .smem S24x16 .f32) (harg1 : arg1.IsWhole)
  (arg2 : Memref sig .tc .smem S24x16 .f32) (harg2 : arg2.IsWhole) (arg3 : Memref sig .tc .smem S24x16 .f32) (harg3 : arg3.IsWhole)
  (arg4 : Memref sig .tc .vmem S1x1024x128 .fp8e4m3) (harg4 : arg4.IsWhole) (arg5 : Memref sig .tc .vmem S1x1024x128 .fp8e4m3) (harg5 : arg5.IsWhole)
  (arg6 : Memref sig .tc .vmem S1x1024x256 .fp8e4m3) (harg6 : arg6.IsWhole) (arg7 : Memref sig .tc .vmem S1x1024x256 .fp8e5m2) (harg7 : arg7.IsWhole)
  (arg8 : Memref sig .tc .vmem S1x8x128 .f32) (harg8 : arg8.IsWhole) (arg9 : Memref sig .tc .vmem S1x1024x128 .bf16) (harg9 : arg9.IsWhole)
  (arg10 : Memref sig .tc .vmem S1x1024x128 .bf16) (harg10 : arg10.IsWhole) (arg11 : Memref sig .tc .vmem S1x1024x256 .bf16) (harg11 : arg11.IsWhole)
  (arg12 : Memref sig .tc .vmem S128x256 .f32) (harg12 : arg12.IsWhole) (arg13 : Memref sig .tc .vmem S128x256 .f32) (harg13 : arg13.IsWhole)
  (arg14 : Memref sig .tc .vmem S1024x128 .f32) (harg14 : arg14.IsWhole)
  (x0 x1 x2 : Vec Ideal S24x16 .f32) (x3 x4 : Vec Ideal S1x1024x128 .fp8e4m3) (x5 : Vec Ideal S1x1024x256 .fp8e4m3)
  (x6 : Vec Ideal S1x1024x256 .fp8e5m2) (x7 : Vec Ideal S1x8x128 .f32)

/-- A chunk's block of `dq`, of what the head loads and what the sum `s` holds by then; -/
theorem dq_at (n : Fin 16) (t : Fin 64) (d : Fin 128) :
    dqBlock (ldScale i arg2 harg2 x1 (ck n.val)) (ldScale i arg3 harg3 x2 (ck n.val)) (ld256 arg7 harg7 x6 (ck n.val)) (ld256 arg6 harg6 x5 (ck n.val))
        (ld128 arg5 harg5 x4 (ck n.val)) (ldCol arg14 arg8 harg8 x7 (ck n.val))
        (sumRead arg12 (stepS i arg2 harg2 arg3 harg3 arg5 harg5 arg6 harg6 x1 x2 x4 x5) n.val) (ix3 0 t d)
      = kdq (theHead i x0 x1 x2 x3 x4 x5 x6 x7) sigma n t d := by
  rw [ck_val, dqBlock_at, sumRead_eq]
  simp only [ld128_at, ld256_at, ldScale_at, ldCol_at, sum_s_at i arg2 harg2 arg3 harg3 arg5 harg5 arg6 harg6 x0 x1 x2 x3 x4 x5 x6 x7]
  rfl

/-- of `dk`; -/
theorem dk_at (n : Fin 16) (t : Fin 64) (d : Fin 128) :
    dkBlock (ldScale i arg1 harg1 x0 (ck n.val)) (ldScale i arg3 harg3 x2 (ck n.val)) (ld128 arg4 harg4 x3 (ck n.val)) (ld256 arg6 harg6 x5 (ck n.val))
        (ld256 arg7 harg7 x6 (ck n.val)) (ldRow arg8 harg8 x7 (ck n.val))
        (sumRead arg13 (stepDs i arg1 harg1 arg4 harg4 arg7 harg7 arg8 harg8 x0 x3 x6 x7) (15 - n.val)) (ix3 0 t d)
      = kdk (theHead i x0 x1 x2 x3 x4 x5 x6 x7) sigma n t d := by
  rw [ck_val, dkBlock_at, sumRead_eq]
  simp only [ld128_at, ld256_at, ldScale_at, ldRow_at, sum_ds_at i arg1 harg1 arg4 harg4 arg7 harg7 arg8 harg8 x0 x1 x2 x3 x4 x5 x6 x7]
  rfl

/-- of `dv`. -/
theorem dv_at (n : Fin 16) (t : Fin 64) (d : Fin 256) :
    dvBlock (ldScale i arg1 harg1 x0 (ck n.val)) (ldScale i arg2 harg2 x1 (ck n.val)) (ld128 arg4 harg4 x3 (ck n.val)) (ld128 arg5 harg5 x4 (ck n.val))
        (ld256 arg7 harg7 x6 (ck n.val)) (ldRow arg8 harg8 x7 (ck n.val))
        (sumRead arg13 (stepDs i arg1 harg1 arg4 harg4 arg7 harg7 arg8 harg8 x0 x3 x6 x7) (15 - n.val)) (ix3 0 t d)
      = kdv (theHead i x0 x1 x2 x3 x4 x5 x6 x7) sigma n t d := by
  rw [ck_val, dvBlock_at, sumRead_eq]
  simp only [ld128_at, ld256_at, ldScale_at, ldRow_at, sum_ds_at i arg1 harg1 arg4 harg4 arg7 harg7 arg8 harg8 x0 x1 x2 x3 x4 x5 x6 x7]
  rfl

/-- What a grid point leaves in `dq`'s block; -/
theorem out_dq (y : S1x1024x128.Idx) :
    out0_A_8 c i arg1 harg1 arg2 harg2 arg3 harg3 arg4 harg4 arg5 harg5 arg6 harg6 arg7 harg7 arg8 harg8 arg9 harg9 arg10 harg10
        arg11 harg11 arg12 harg12 arg13 harg13 arg14 harg14 x0 x1 x2 x3 x4 x5 x6 x7 y
      = kdq (theHead i x0 x1 x2 x3 x4 x5 x6 x7) sigma (chunkOf (y 1)) (posOf (y 1)) (y 2) := by
  unfold out0_A_8
  rw [View.read_writes_junk_eq_canon, run_dq]
  exact canon128 _ (by decide) (by decide) _ _
    (dq_at i arg2 harg2 arg3 harg3 arg5 harg5 arg6 harg6 arg7 harg7 arg8 harg8 arg12 arg14 x0 x1 x2 x3 x4 x5 x6 x7) y

/-- in `dk`'s; -/
theorem out_dk (y : S1x1024x128.Idx) :
    out0_A_9 c i arg1 harg1 arg2 harg2 arg3 harg3 arg4 harg4 arg5 harg5 arg6 harg6 arg7 harg7 arg8 harg8 arg9 harg9 arg10 harg10
        arg11 harg11 arg12 harg12 arg13 harg13 arg14 harg14 x0 x1 x2 x3 x4 x5 x6 x7 y
      = kdk (theHead i x0 x1 x2 x3 x4 x5 x6 x7) sigma (chunkOf (y 1)) (posOf (y 1)) (y 2) := by
  unfold out0_A_9
  rw [View.read_writes_junk_eq_canon, run_dk]
  exact canon128 _ (by decide) (by decide) _ _
    (dk_at i arg1 harg1 arg3 harg3 arg4 harg4 arg6 harg6 arg7 harg7 arg8 harg8 arg13 x0 x1 x2 x3 x4 x5 x6 x7) y

/-- in `dv`'s. -/
theorem out_dv (y : S1x1024x256.Idx) :
    out0_A_10 c i arg1 harg1 arg2 harg2 arg3 harg3 arg4 harg4 arg5 harg5 arg6 harg6 arg7 harg7 arg8 harg8 arg9 harg9 arg10 harg10
        arg11 harg11 arg12 harg12 arg13 harg13 arg14 harg14 x0 x1 x2 x3 x4 x5 x6 x7 y
      = kdv (theHead i x0 x1 x2 x3 x4 x5 x6 x7) sigma (chunkOf (y 1)) (posOf (y 1)) (y 2) := by
  unfold out0_A_10
  rw [View.read_writes_junk_eq_canon, run_dv]
  exact canon256 _ (by decide) (by decide) _ _
    (dv_at i arg1 harg1 arg2 harg2 arg4 harg4 arg5 harg5 arg7 harg7 arg8 harg8 arg13 x0 x1 x2 x3 x4 x5 x6 x7) y

end Blocks

end Cert.KernelIdeal.Chunk

end
-- ==== Proof.Arrays.lean ====
/-
  What the kernel's result arrays hold after its run: at every head, the kernel's mathematics (Proof/Head.lean) of that head
  of the arguments.
-/
module

public import proofs.«01_k».proof.Proof.HeadAt
public import proofs.«01_k».proof.Proof.Gen.KernelIdeal.Value

@[expose] public section

set_option maxRecDepth 16384

noncomputable section

namespace Cert.KernelIdeal.Chunk

open Idealize.ShloMosaic Idealize.ShloMosaic.Pointwise Cert.KernelIdeal.Gen Idealize.ShloMosaic.TcCoe Cert.Head

variable (m : (ℓ : Loc nD τ sig) → Buf (Elt Ideal) ℓ) (c : Dev nD)

/-- Head `j` of 24 is head `j % 12` of batch `j / 12`. -/
abbrev batchOf (j : Fin 24) : Fin 2 := ⟨j.val / 12, by omega⟩
abbrev headNo (j : Fin 24) : Fin 12 := ⟨j.val % 12, by omega⟩

/-- The head at `(b, g)` of the arguments. -/
def argHead (b : Fin 2) (g : Fin 12) : Head where
  q n t d := (m ((c : Thread nD τ).loc main_arg0) : Vec Ideal S2x12x1024x128 .fp8e4m3) (ix4 b g (row n t) d)
  k n t d := (m ((c : Thread nD τ).loc main_arg2) : Vec Ideal S2x12x1024x128 .fp8e4m3) (ix4 b g (row n t) d)
  v n t d := (m ((c : Thread nD τ).loc main_arg4) : Vec Ideal S2x12x1024x256 .fp8e4m3) (ix4 b g (row n t) d)
  o n t d := (m ((c : Thread nD τ).loc main_arg6) : Vec Ideal S2x12x1024x256 .fp8e5m2) (ix4 b g (row n t) d)
  r n t := (m ((c : Thread nD τ).loc main_arg7) : Vec Ideal S2x12x1024 .f32) (ix3 b g (row n t))
  qs n := (m ((c : Thread nD τ).loc main_arg1) : Vec Ideal S2x12x16 .f32) (ix3 b g n)
  ks n := (m ((c : Thread nD τ).loc main_arg3) : Vec Ideal S2x12x16 .f32) (ix3 b g n)
  vs n := (m ((c : Thread nD τ).loc main_arg5) : Vec Ideal S2x12x16 .f32) (ix3 b g n)

/-- Where each window's block lies at a grid point. -/
theorem idx : ∀ t : Fin cfg0.N, win0_0.index t = ![0, 0] ∧ win0_1.index t = ![0, 0] ∧ win0_2.index t = ![0, 0]
    ∧ win0_3.index t = ![t.val, 0, 0] ∧ win0_4.index t = ![t.val, 0, 0] ∧ win0_5.index t = ![t.val, 0, 0]
    ∧ win0_6.index t = ![t.val, 0, 0] ∧ win0_7.index t = ![t.val, 0, 0] ∧ win0_8.index t = ![t.val, 0, 0]
    ∧ win0_9.index t = ![t.val, 0, 0] ∧ win0_10.index t = ![t.val, 0, 0] :=
  (by decide +kernel : ∀ t : Fin grid0.N, _)

/-- Grid point `t` works on head `t`. -/
theorem headAt_coords (t : Fin 24) : headAt (grid0.coords t) = t :=
  Fin.ext ((by decide +kernel : ∀ t : Fin grid0.N, (grid0.coords t 0).val = t.val) t)

section Point
variable (t : Fin 24)

theorem q_at (n : Fin 16) (s : Fin 64) (d : Fin 128) : (iblk m c 3 t : Vec Ideal S1x1024x128 .fp8e4m3) (ix3 0 (row n s) d)
    = (m ((c : Thread nD τ).loc main_arg0) : Vec Ideal S2x12x1024x128 .fp8e4m3) (ix4 (batchOf t) (headNo t) (row n s) d) := by
  blk_ext! [iblk, V, idx t]
theorem k_at (n : Fin 16) (s : Fin 64) (d : Fin 128) : (iblk m c 4 t : Vec Ideal S1x1024x128 .fp8e4m3) (ix3 0 (row n s) d)
    = (m ((c : Thread nD τ).loc main_arg2) : Vec Ideal S2x12x1024x128 .fp8e4m3) (ix4 (batchOf t) (headNo t) (row n s) d) := by
  blk_ext! [iblk, V, idx t]
theorem v_at (n : Fin 16) (s : Fin 64) (d : Fin 256) : (iblk m c 5 t : Vec Ideal S1x1024x256 .fp8e4m3) (ix3 0 (row n s) d)
    = (m ((c : Thread nD τ).loc main_arg4) : Vec Ideal S2x12x1024x256 .fp8e4m3) (ix4 (batchOf t) (headNo t) (row n s) d) := by
  blk_ext! [iblk, V, idx t]
theorem o_at (n : Fin 16) (s : Fin 64) (d : Fin 256) : (iblk m c 6 t : Vec Ideal S1x1024x256 .fp8e5m2) (ix3 0 (row n s) d)
    = (m ((c : Thread nD τ).loc main_arg6) : Vec Ideal S2x12x1024x256 .fp8e5m2) (ix4 (batchOf t) (headNo t) (row n s) d) := by
  blk_ext! [iblk, V, idx t]
theorem r_at (n : Fin 16) (s : Fin 64) : (iblk m c 7 t : Vec Ideal S1x8x128 .f32) (ix3 0 (rowHi n) (rowLo n s))
    = (m ((c : Thread nD τ).loc main_arg7) : Vec Ideal S2x12x1024 .f32) (ix3 (batchOf t) (headNo t) (row n s)) := by
  blk_ext! [iblk, V, idx t]
  show n.val / 2 * 128 + (n.val % 2 * 64 + s.val) = n.val * 64 + s.val
  omega
theorem qs_at (n : Fin 16) : (iblk m c 0 t : Vec Ideal S24x16 .f32) (ix2 t n)
    = (m ((c : Thread nD τ).loc main_arg1) : Vec Ideal S2x12x16 .f32) (ix3 (batchOf t) (headNo t) n) := by
  blk_ext! [iblk, V, idx t]
theorem ks_at (n : Fin 16) : (iblk m c 1 t : Vec Ideal S24x16 .f32) (ix2 t n)
    = (m ((c : Thread nD τ).loc main_arg3) : Vec Ideal S2x12x16 .f32) (ix3 (batchOf t) (headNo t) n) := by
  blk_ext! [iblk, V, idx t]
theorem vs_at (n : Fin 16) : (iblk m c 2 t : Vec Ideal S24x16 .f32) (ix2 t n)
    = (m ((c : Thread nD τ).loc main_arg5) : Vec Ideal S2x12x16 .f32) (ix3 (batchOf t) (headNo t) n) := by
  blk_ext! [iblk, V, idx t]

/-- The blocks of grid point `t` are head `t` of the arguments. -/
theorem theHead_at : theHead (grid0.coords t) (iblk m c 0 t) (iblk m c 1 t) (iblk m c 2 t) (iblk m c 3 t) (iblk m c 4 t) (iblk m c 5 t)
    (iblk m c 6 t) (iblk m c 7 t) = argHead m c (batchOf t) (headNo t) := by
  unfold theHead
  rw [headAt_coords t]
  unfold blockHead argHead
  congr 1
  · exact funext fun n => funext fun s => funext fun d => q_at m c t n s d
  · exact funext fun n => funext fun s => funext fun d => k_at m c t n s d
  · exact funext fun n => funext fun s => funext fun d => v_at m c t n s d
  · exact funext fun n => funext fun s => funext fun d => o_at m c t n s d
  · exact funext fun n => funext fun s => r_at m c t n s
  · exact funext fun n => qs_at m c t n
  · exact funext fun n => ks_at m c t n
  · exact funext fun n => vs_at m c t n

/-- What grid point `t` leaves for `dq`; -/
theorem point_dq (y : S1x1024x128.Idx) : (outsAt0 m c t).1 y = kdq (argHead m c (batchOf t) (headNo t)) sigma (chunkOf (y 1)) (posOf (y 1)) (y 2) := by
  unfold outsAt0
  dsimp only
  rw [out_dq]
  exact congrArg (fun H => kdq H sigma (chunkOf (y 1)) (posOf (y 1)) (y 2)) (theHead_at m c t)

/-- for `dk`; -/
theorem point_dk (y : S1x1024x128.Idx) : (outsAt0 m c t).2.1 y = kdk (argHead m c (batchOf t) (headNo t)) sigma (chunkOf (y 1)) (posOf (y 1)) (y 2) := by
  unfold outsAt0
  dsimp only
  rw [out_dk]
  exact congrArg (fun H => kdk H sigma (chunkOf (y 1)) (posOf (y 1)) (y 2)) (theHead_at m c t)

/-- for `dv`. -/
theorem point_dv (y : S1x1024x256.Idx) : (outsAt0 m c t).2.2 y = kdv (argHead m c (batchOf t) (headNo t)) sigma (chunkOf (y 1)) (posOf (y 1)) (y 2) := by
  unfold outsAt0
  dsimp only
  rw [out_dv]
  exact congrArg (fun H => kdv H sigma (chunkOf (y 1)) (posOf (y 1)) (y 2)) (theHead_at m c t)

end Point

/-- `dq` as an array; -/
def dqArr : Vec Ideal S24x1024x128 .bf16 := fun y => kdq (argHead m c (batchOf (y 0)) (headNo (y 0))) sigma (chunkOf (y 1)) (posOf (y 1)) (y 2)

/-- `dk`; -/
def dkArr : Vec Ideal S24x1024x128 .bf16 := fun y => kdk (argHead m c (batchOf (y 0)) (headNo (y 0))) sigma (chunkOf (y 1)) (posOf (y 1)) (y 2)

/-- `dv`. -/
def dvArr : Vec Ideal S24x1024x256 .bf16 := fun y => kdv (argHead m c (batchOf (y 0)) (headNo (y 0))) sigma (chunkOf (y 1)) (posOf (y 1)) (y 2)

/-- After the run the first result holds `dq`; -/
theorem arr_dq : (dats m 0 c).arrAt 8 cfg0.N = dqArr m c := by
  refine (dats m 0 c).arrAt_eq_of_covers 8 _ (by decide +kernel) fun t hf y => ?_
  blk_simp
  rw [after0_8]
  refine (point_dq m c t y).trans ?_
  have e0 : (((cfg0.win 8).blk t).view.emb y) 0 = t := Fin.ext (by
    have h0 : (y 0).val < 1 := (y 0).isLt
    blk_simp [idx t])
  have e1 : (((cfg0.win 8).blk t).view.emb y) 1 = y 1 := Fin.ext (by blk_simp [idx t])
  have e2 : (((cfg0.win 8).blk t).view.emb y) 2 = y 2 := Fin.ext (by blk_simp [idx t])
  show _ = kdq (argHead m c (batchOf ((((cfg0.win 8).blk t).view.emb y) 0)) (headNo ((((cfg0.win 8).blk t).view.emb y) 0))) sigma
    (chunkOf ((((cfg0.win 8).blk t).view.emb y) 1)) (posOf ((((cfg0.win 8).blk t).view.emb y) 1)) ((((cfg0.win 8).blk t).view.emb y) 2)
  rw [e0, e1, e2]

/-- the second `dk`; -/
theorem arr_dk : (dats m 0 c).arrAt 9 cfg0.N = dkArr m c := by
  refine (dats m 0 c).arrAt_eq_of_covers 9 _ (by decide +kernel) fun t hf y => ?_
  blk_simp
  rw [after0_9]
  refine (point_dk m c t y).trans ?_
  have e0 : (((cfg0.win 9).blk t).view.emb y) 0 = t := Fin.ext (by
    have h0 : (y 0).val < 1 := (y 0).isLt
    blk_simp [idx t])
  have e1 : (((cfg0.win 9).blk t).view.emb y) 1 = y 1 := Fin.ext (by blk_simp [idx t])
  have e2 : (((cfg0.win 9).blk t).view.emb y) 2 = y 2 := Fin.ext (by blk_simp [idx t])
  show _ = kdk (argHead m c (batchOf ((((cfg0.win 9).blk t).view.emb y) 0)) (headNo ((((cfg0.win 9).blk t).view.emb y) 0))) sigma
    (chunkOf ((((cfg0.win 9).blk t).view.emb y) 1)) (posOf ((((cfg0.win 9).blk t).view.emb y) 1)) ((((cfg0.win 9).blk t).view.emb y) 2)
  rw [e0, e1, e2]

/-- the third `dv`. -/
theorem arr_dv : (dats m 0 c).arrAt 10 cfg0.N = dvArr m c := by
  refine (dats m 0 c).arrAt_eq_of_covers 10 _ (by decide +kernel) fun t hf y => ?_
  blk_simp
  rw [after0_10]
  refine (point_dv m c t y).trans ?_
  have e0 : (((cfg0.win 10).blk t).view.emb y) 0 = t := Fin.ext (by
    have h0 : (y 0).val < 1 := (y 0).isLt
    blk_simp [idx t])
  have e1 : (((cfg0.win 10).blk t).view.emb y) 1 = y 1 := Fin.ext (by blk_simp [idx t])
  have e2 : (((cfg0.win 10).blk t).view.emb y) 2 = y 2 := Fin.ext (by blk_simp [idx t])
  show _ = kdv (argHead m c (batchOf ((((cfg0.win 10).blk t).view.emb y) 0)) (headNo ((((cfg0.win 10).blk t).view.emb y) 0))) sigma
    (chunkOf ((((cfg0.win 10).blk t).view.emb y) 1)) (posOf ((((cfg0.win 10).blk t).view.emb y) 1)) ((((cfg0.win 10).blk t).view.emb y) 2)
  rw [e0, e1, e2]

end Cert.KernelIdeal.Chunk

end
-- ==== Proof.Cumsum.lean ====
/-
  The reference's two running sums along the chunk axis, read at an index: a sum over the chunks up to (or from) the one
  read. Then the shift by one chunk, a slice followed by a pad: a sum over the chunks strictly before (or after) it.
-/
module

public import proofs.«01_k».proof.Proof.Gen.ReferenceIdeal.Launch
public import Idealize.ShloMosaic.Lib.Pointwise

@[expose] public section

set_option maxRecDepth 16384

noncomputable section

namespace Cert.ReferenceIdeal.Cumsum

open Idealize.ShloMosaic Idealize.ShloMosaic.Pointwise Cert.ReferenceIdeal.Gen

/-- A left fold that adds is the start plus the sum. -/
theorem foldl_add {ι : Type} (g : ι → EReal) : ∀ (l : List ι) (r : EReal), l.foldl (fun r n => r + g n) r = r + (l.map g).sum
  | [], r => by simp
  | n :: l, r => by rw [List.foldl_cons, foldl_add g l, List.map_cons, List.sum_cons, add_assoc]

/-- A sum over a window of sixteen chunks that ends at chunk `n` is a sum over the chunks up to `n`. -/
theorem sum_upto (n : Fin 16) (f : Fin 16 → EReal) :
    (∑ w : Fin 16, if h : 15 ≤ n.val + w.val then f ⟨n.val + w.val - 15, by omega⟩ else 0) = ∑ m : Fin 16, if m ≤ n then f m else 0 := by
  have e : ∀ w : Fin 16, (if h : 15 ≤ n.val + w.val then f ⟨n.val + w.val - 15, by omega⟩ else 0)
      = if 15 ≤ n.val + w.val then f ⟨(n.val + w.val - 15) % 16, Nat.mod_lt _ (by decide)⟩ else 0 := by
    intro w
    split
    · rename_i h
      congr 1
      exact Fin.ext (Nat.mod_eq_of_lt (by omega)).symm
    · rfl
  rw [Finset.sum_congr rfl fun w _ => e w, ← Finset.sum_filter, ← Finset.sum_filter]
  refine Finset.sum_nbij' (fun w => ⟨(n.val + w.val - 15) % 16, Nat.mod_lt _ (by decide)⟩)
    (fun m => ⟨(m.val + 15 - n.val) % 16, Nat.mod_lt _ (by decide)⟩) ?_ ?_ ?_ ?_ ?_
  all_goals intro a ha; simp only [Finset.mem_filter, Finset.mem_univ, true_and, Fin.le_def] at ha ⊢
  · omega
  · omega
  · exact Fin.ext (by simp only []; omega)
  · exact Fin.ext (by simp only []; omega)

/-- A sum over a window of sixteen chunks that starts at chunk `n` is a sum over the chunks from `n` on. -/
theorem sum_from (n : Fin 16) (f : Fin 16 → EReal) :
    (∑ w : Fin 16, if h : n.val + w.val < 16 then f ⟨n.val + w.val, h⟩ else 0) = ∑ m : Fin 16, if n ≤ m then f m else 0 := by
  have e : ∀ w : Fin 16, (if h : n.val + w.val < 16 then f ⟨n.val + w.val, h⟩ else 0)
      = if n.val + w.val < 16 then f ⟨(n.val + w.val) % 16, Nat.mod_lt _ (by decide)⟩ else 0 := by
    intro w
    split
    · rename_i h
      congr 1
      exact Fin.ext (Nat.mod_eq_of_lt h).symm
    · rfl
  rw [Finset.sum_congr rfl fun w _ => e w, ← Finset.sum_filter, ← Finset.sum_filter]
  refine Finset.sum_nbij' (fun w => ⟨(n.val + w.val) % 16, Nat.mod_lt _ (by decide)⟩)
    (fun m => ⟨(m.val - n.val) % 16, Nat.mod_lt _ (by decide)⟩) ?_ ?_ ?_ ?_ ?_
  all_goals intro a ha; simp only [Finset.mem_filter, Finset.mem_univ, true_and, Fin.le_def] at ha ⊢
  · omega
  · omega
  · exact Fin.ext (by simp only []; omega)
  · exact Fin.ext (by simp only []; omega)

/-- The positions of the running sums' window are sixteen, along the chunk axis. -/
def windowEquiv : (⟨5, ![1, 1, 16, 1, 1]⟩ : Shape).Idx ≃ Fin 16 where
  toFun w := w 2
  invFun m := ix5 0 0 m 0 0
  left_inv w := by
    funext a
    match a with
    | ⟨0, _⟩ => exact Subsingleton.elim (α := Fin 1) _ _
    | ⟨1, _⟩ => exact Subsingleton.elim (α := Fin 1) _ _
    | ⟨2, _⟩ => rfl
    | ⟨3, _⟩ => exact Subsingleton.elim (α := Fin 1) _ _
    | ⟨4, _⟩ => exact Subsingleton.elim (α := Fin 1) _ _
  right_inv m := rfl

/-- A window sum from zero is a sum over the window's positions. -/
theorem window_sum (lo hi : Fin 5 → Nat) (x : FVec Ideal S2x12x16x128x256 .f32) (init : FVec Ideal S_ .f32) (h0 : init ix0 = 0)
    (h : S2x12x16x128x256.ReduceWindows ![1, 1, 16, 1, 1] ![1, 1, 1, 1, 1] lo hi S2x12x16x128x256) (hu : 0 < S_.numel)
    (j : S2x12x16x128x256.Idx) :
    Host.reduceWindowAdd ![1, 1, 16, 1, 1] ![1, 1, 1, 1, 1] lo hi x init h hu j
      = ∑ w : Fin 16, if hin : ∀ a : Fin 5, lo a ≤ (j a).val * (![1, 1, 1, 1, 1] : Fin 5 → Nat) a + ((ix5 0 0 w 0 0 : (⟨5, ![1, 1, 16, 1, 1]⟩ : Shape).Idx) a).val
          ∧ (j a).val * (![1, 1, 1, 1, 1] : Fin 5 → Nat) a + ((ix5 0 0 w 0 0 : (⟨5, ![1, 1, 16, 1, 1]⟩ : Shape).Idx) a).val - lo a < S2x12x16x128x256.size a
        then x (fun a => ⟨(j a).val * (![1, 1, 1, 1, 1] : Fin 5 → Nat) a + ((ix5 0 0 w 0 0 : (⟨5, ![1, 1, 16, 1, 1]⟩ : Shape).Idx) a).val - lo a, (hin a).2⟩) else 0 := by
  have hi0 : init (Shape.Idx.first hu) = 0 := (congrArg init (Subsingleton.elim _ _)).trans h0
  refine (foldl_add _ _ _).trans ?_
  rw [← Fin.sum_univ_def]
  refine (congrArg (· + _) hi0).trans ((zero_add _).trans ?_)
  refine Fintype.sum_equiv ((⟨5, ![1, 1, 16, 1, 1]⟩ : Shape).rowMajor.symm.trans windowEquiv) _ _ fun n => ?_
  rw [hi0]
  have ew : ix5 0 0 (((⟨5, ![1, 1, 16, 1, 1]⟩ : Shape).rowMajor.symm.trans windowEquiv) n) 0 0 = (⟨5, ![1, 1, 16, 1, 1]⟩ : Shape).rowMajor.symm n :=
    windowEquiv.symm_apply_apply ((⟨5, ![1, 1, 16, 1, 1]⟩ : Shape).rowMajor.symm n)
  rw [ew]
  congr 1

/-- The running sum at a chunk: the sum over the chunks up to it. -/
theorem cumsum_at (x : FVec Ideal S2x12x16x128x256 .f32) (init : FVec Ideal S_ .f32) (h0 : init ix0 = 0)
    (h : S2x12x16x128x256.ReduceWindows ![1, 1, 16, 1, 1] ![1, 1, 1, 1, 1] ![0, 0, 15, 0, 0] ![0, 0, 0, 0, 0] S2x12x16x128x256)
    (hu : 0 < S_.numel) (b : Fin 2) (g : Fin 12) (n : Fin 16) (d : Fin 128) (e : Fin 256) :
    Host.reduceWindowAdd ![1, 1, 16, 1, 1] ![1, 1, 1, 1, 1] ![0, 0, 15, 0, 0] ![0, 0, 0, 0, 0] x init h hu (ix5 b g n d e)
      = ∑ m : Fin 16, if m ≤ n then x (ix5 b g m d e) else 0 := by
  refine (window_sum _ _ x init h0 h hu _).trans ((Finset.sum_congr rfl fun w _ => ?_).trans (sum_upto n fun m => x (ix5 b g m d e)))
  by_cases hw : 15 ≤ n.val + w.val
  · rw [dif_pos hw, dif_pos]
    · congr 1
      funext a
      fin_cases a <;> refine Fin.ext ?_ <;> simp [ix5]
    · intro a
      fin_cases a <;> simp [ix5] <;> omega
  · rw [dif_neg hw, dif_neg]
    intro ha
    have := (ha 2).1
    simp [ix5] at this
    omega

/-- The reversed running sum at a chunk: the sum over the chunks from it on. -/
theorem revsum_at (x : FVec Ideal S2x12x16x128x256 .f32) (init : FVec Ideal S_ .f32) (h0 : init ix0 = 0)
    (h : S2x12x16x128x256.ReduceWindows ![1, 1, 16, 1, 1] ![1, 1, 1, 1, 1] ![0, 0, 0, 0, 0] ![0, 0, 15, 0, 0] S2x12x16x128x256)
    (hu : 0 < S_.numel) (b : Fin 2) (g : Fin 12) (n : Fin 16) (d : Fin 128) (e : Fin 256) :
    Host.reduceWindowAdd ![1, 1, 16, 1, 1] ![1, 1, 1, 1, 1] ![0, 0, 0, 0, 0] ![0, 0, 15, 0, 0] x init h hu (ix5 b g n d e)
      = ∑ m : Fin 16, if n ≤ m then x (ix5 b g m d e) else 0 := by
  refine (window_sum _ _ x init h0 h hu _).trans ((Finset.sum_congr rfl fun w _ => ?_).trans (sum_from n fun m => x (ix5 b g m d e)))
  by_cases hw : n.val + w.val < 16
  · rw [dif_pos hw, dif_pos]
    · congr 1
      funext a
      fin_cases a <;> refine Fin.ext ?_ <;> simp [ix5]
    · intro a
      fin_cases a <;> simp [ix5] <;> omega
  · rw [dif_neg hw, dif_neg]
    intro ha
    have := (ha 2).2
    simp [ix5] at this
    omega

end Cert.ReferenceIdeal.Cumsum

end
-- ==== Proof.RefTail.lean ====
/-
  The reference's operations after the decode, read at an index of each result: the head's mathematics (Proof/Head.lean) of
  the buffers they read.
-/
module

public import proofs.«01_k».proof.Proof.Cumsum
public import proofs.«01_k».proof.Proof.Head
public import Idealize.ShloMosaic.Lib.StableHlo.ReadAt

@[expose] public section

set_option maxRecDepth 16384

noncomputable section

namespace Cert.ReferenceIdeal.Tail

open Idealize.ShloMosaic Idealize.ShloMosaic.Pointwise Cert.ReferenceIdeal.Gen Idealize.ShloMosaic.TcCoe
open Cert.ReferenceIdeal.Cumsum Cert.Head

/-- The operations after the decode, in order. -/
abbrev tail : List (HloOp τ sig (Elt Ideal)) :=
  ([hostOps1, hostOps1_1, hostOps1_2, hostOps1_3, hostOps1_4, hostOps1_5, hostOps1_6, hostOps1_7, hostOps1_8, hostOps1_9, hostOps1_10,
    hostOps1_11, hostOps1_12, hostOps1_13, hostOps1_14] : List (List (HloOp τ sig (Elt Ideal)))).flatten

/-- The number the results are multiplied by last, `128 ^ (-1/2)` as the program has it. -/
abbrev sigma : EReal := Ideal.ofBits .f32 1035273459#32

/-- Row `t` of chunk `n`. -/
def row (n : Fin 16) (t : Fin 64) : Fin 1024 := ⟨n.val * 64 + t.val, by omega⟩

/-- The head at `(b, g)` of what a valuation holds in the decoded arrays and the scales. -/
def headOf (W : Valuation τ sig (Elt Ideal)) (b : Fin 2) (g : Fin 12) : Head where
  q n t d := (W (Proc.devRef .tc main_v0_0) : Vec Ideal S2x12x1024x128 .bf16) (ix4 b g (row n t) d)
  k n t d := (W (Proc.devRef .tc main_v0_1) : Vec Ideal S2x12x1024x128 .bf16) (ix4 b g (row n t) d)
  v n t d := (W (Proc.devRef .tc main_v0_2) : Vec Ideal S2x12x1024x256 .bf16) (ix4 b g (row n t) d)
  o n t d := (W (Proc.devRef .tc main_v0_3) : Vec Ideal S2x12x1024x256 .bf16) (ix4 b g (row n t) d)
  r n t := (W (Proc.devRef .tc main_arg7) : Vec Ideal S2x12x1024 .f32) (ix3 b g (row n t))
  qs n := (W (Proc.devRef .tc main_arg1) : Vec Ideal S2x12x16 .f32) (ix3 b g n)
  ks n := (W (Proc.devRef .tc main_arg3) : Vec Ideal S2x12x16 .f32) (ix3 b g n)
  vs n := (W (Proc.devRef .tc main_arg5) : Vec Ideal S2x12x16 .f32) (ix3 b g n)

/-- The zero the running sums start from. -/
theorem zero_init : broadcastInDim S_ ![] bcast_S_S_ (constant (F := Ideal) S_ .f32 0#32) ix0 = 0 := by pointwise

/-- The integer zero as a float is zero. -/
theorem sitofp_zero : (FloatOps.sitofp (F := Ideal) .f32 0#32 : EReal) = 0 := by
  show (((0#32 : BitVec 32).toInt : ℝ) : EReal) = 0
  simp

/-- The sum over the chunks strictly before: the running sum shifted by one chunk, zero at the first. -/
theorem before_at (x : FVec Ideal S2x12x16x128x256 .f32) (init : FVec Ideal S_ .f32) (h0 : init ix0 = 0)
    (h : S2x12x16x128x256.ReduceWindows ![1, 1, 16, 1, 1] ![1, 1, 1, 1, 1] ![0, 0, 15, 0, 0] ![0, 0, 0, 0, 0] S2x12x16x128x256)
    (hu : 0 < S_.numel) (b : Fin 2) (g : Fin 12) (n : Fin 16) (d : Fin 128) (e : Fin 256) :
    (if hc : b.val < 2 ∧ g.val < 12 ∧ 1 ≤ n.val ∧ n.val - 1 < 15 then
        Host.reduceWindowAdd ![1, 1, 16, 1, 1] ![1, 1, 1, 1, 1] ![0, 0, 15, 0, 0] ![0, 0, 0, 0, 0] x init h hu
          (ix5 b g ⟨n.val - 1, by omega⟩ d e)
      else FloatOps.sitofp .f32 0#32) = ∑ m : Fin 16, if m < n then x (ix5 b g m d e) else 0 := by
  by_cases hn : 1 ≤ n.val
  · rw [dif_pos ⟨b.isLt, g.isLt, hn, by omega⟩, cumsum_at x init h0]
    refine Finset.sum_congr rfl fun m _ => if_congr ?_ rfl rfl
    rw [Fin.le_def, Fin.lt_def]
    simp only []
    omega
  · rw [dif_neg fun hc => hn hc.2.2.1]
    refine sitofp_zero.trans (Finset.sum_eq_zero fun m _ => if_neg ?_).symm
    rw [Fin.lt_def]
    omega

/-- The sum over the chunks strictly after. -/
theorem after_at (x : FVec Ideal S2x12x16x128x256 .f32) (init : FVec Ideal S_ .f32) (h0 : init ix0 = 0)
    (h : S2x12x16x128x256.ReduceWindows ![1, 1, 16, 1, 1] ![1, 1, 1, 1, 1] ![0, 0, 0, 0, 0] ![0, 0, 15, 0, 0] S2x12x16x128x256)
    (hu : 0 < S_.numel) (b : Fin 2) (g : Fin 12) (n : Fin 16) (d : Fin 128) (e : Fin 256) :
    (if hc : b.val < 2 ∧ g.val < 12 ∧ n.val < 15 then
        Host.reduceWindowAdd ![1, 1, 16, 1, 1] ![1, 1, 1, 1, 1] ![0, 0, 0, 0, 0] ![0, 0, 15, 0, 0] x init h hu
          (ix5 b g ⟨1 + n.val, by omega⟩ d e)
      else FloatOps.sitofp .f32 0#32) = ∑ m : Fin 16, if n < m then x (ix5 b g m d e) else 0 := by
  by_cases hn : n.val < 15
  · rw [dif_pos ⟨b.isLt, g.isLt, hn⟩, revsum_at x init h0]
    refine Finset.sum_congr rfl fun m _ => if_congr ?_ rfl rfl
    rw [Fin.le_def, Fin.lt_def]
    simp only []
    omega
  · rw [dif_neg fun hc => hn hc.2.2]
    refine sitofp_zero.trans (Finset.sum_eq_zero fun m _ => if_neg ?_).symm
    rw [Fin.lt_def]
    omega

/-- The causal mask is decided by the order of the rows. -/
theorem cmp_ge (t x : Fin 64) :
    Scalar.select (IntOp.cmpi .sge (IntOp.addi (BitVec.ofNat 32 t.val) 0#32) (BitVec.ofNat 32 x.val)) (1#1) (0#1) = if x ≤ t then 1#1 else 0#1 := by
  revert x t
  decide +kernel

theorem mask_at (t x : Fin 64) {a a' b : EReal} (ha : a = a') (hb : b = 0) :
    Scalar.select (Scalar.select (IntOp.cmpi .sge (IntOp.addi (BitVec.ofNat 32 t.val) 0#32) (BitVec.ofNat 32 x.val)) (1#1) (0#1)) a b
      = if x ≤ t then a' else 0 := by
  rw [cmp_ge, ha, hb]
  by_cases h : x ≤ t
  · rw [if_pos h, if_pos h]; rfl
  · rw [if_neg h, if_neg h]; rfl

/-- The chunk and the row in it of a row of the array, the batch and the head of a head number. -/
abbrev chunkOf (t : Fin 1024) : Fin 16 := ⟨t.val / 64, by omega⟩
abbrev posOf (t : Fin 1024) : Fin 64 := ⟨t.val % 64, by omega⟩
abbrev batchOf (j : Fin 24) : Fin 2 := ⟨j.val / 12, by omega⟩
abbrev headNo (j : Fin 24) : Fin 12 := ⟨j.val % 12, by omega⟩

/-- The other value of the mask is zero. -/
theorem zero_else : id (constant (F := Ideal) S_ .f32 0#32) ix0 = (0 : EReal) := (by pointwise : constant (F := Ideal) S_ .f32 0#32 ix0 = (0 : EReal))

/-- The reference's `dq`. -/
theorem v70_at (W : Valuation τ sig (Elt Ideal)) (j : Fin 24) (t : Fin 1024) (d : Fin 128) :
    (StableHlo.after tail W (Proc.devRef .tc main_v70) : Vec Ideal S24x1024x128 .bf16) (ix3 j t d)
      = rdq (headOf W (batchOf j) (headNo j)) sigma (chunkOf t) (posOf t) d := by
  after_reads_at
  refine congrArg (· * sigma) (congrArg₂ (· + ·)
    (Finset.sum_congr rfl fun x _ => congrArg₂ (· * ·) rfl
      ((before_at _ _ zero_init _ _ (batchOf j) (headNo j) (chunkOf t) d x).trans
        (Finset.sum_congr rfl fun m _ => congrArg (fun z => if m < chunkOf t then z else 0) ?_)))
    (Finset.sum_congr rfl fun x _ => congrArg₂ (· * ·) (mask_at (posOf t) x rfl zero_else) rfl))
  pointwise
  rfl

/-- The reference's `dk`. -/
theorem v72_at (W : Valuation τ sig (Elt Ideal)) (j : Fin 24) (t : Fin 1024) (d : Fin 128) :
    (StableHlo.after tail W (Proc.devRef .tc main_v72) : Vec Ideal S24x1024x128 .bf16) (ix3 j t d)
      = rdk (headOf W (batchOf j) (headNo j)) sigma (chunkOf t) (posOf t) d := by
  after_reads_at
  refine congrArg (· * sigma) (congrArg₂ (· + ·)
    (Finset.sum_congr rfl fun x _ => congrArg₂ (· * ·) rfl
      ((after_at _ _ zero_init _ _ (batchOf j) (headNo j) (chunkOf t) d x).trans
        (Finset.sum_congr rfl fun m _ => congrArg (fun z => if chunkOf t < m then z else 0) ?_)))
    (Finset.sum_congr rfl fun x _ => congrArg₂ (· * ·) (mask_at x (posOf t) rfl zero_else) rfl))
  pointwise
  rfl

/-- The reference's `dv`. -/
theorem v74_at (W : Valuation τ sig (Elt Ideal)) (j : Fin 24) (t : Fin 1024) (d : Fin 256) :
    (StableHlo.after tail W (Proc.devRef .tc main_v74) : Vec Ideal S24x1024x256 .bf16) (ix3 j t d)
      = rdv (headOf W (batchOf j) (headNo j)) sigma (chunkOf t) (posOf t) d := by
  after_reads_at
  refine congrArg (· * sigma) (congrArg₂ (· + ·)
    (Finset.sum_congr rfl fun x _ => congrArg₂ (· * ·) rfl
      ((after_at _ _ zero_init _ _ (batchOf j) (headNo j) (chunkOf t) x d).trans
        (Finset.sum_congr rfl fun m _ => congrArg (fun z => if chunkOf t < m then z else 0) ?_)))
    (Finset.sum_congr rfl fun x _ => congrArg₂ (· * ·) (mask_at x (posOf t) rfl zero_else) rfl))
  pointwise
  rfl

end Cert.ReferenceIdeal.Tail

end
-- ==== Proof.RefRun.lean ====
/-
  The reference's run: the decoded arrays are the arguments read exactly, so each result array is the head's mathematics
  (Proof/Head.lean) of the arguments.
-/
module

public import proofs.«01_k».proof.Proof.RefTail
public import proofs.«01_k».proof.Proof.Gen.ReferenceIdeal.Frame
public import Idealize.ShloMosaic.Lib.Pipeline.Value
public import Idealize.ShloMosaic.Lib.Pipeline.ValueKit

@[expose] public section

set_option maxRecDepth 16384

noncomputable section

namespace Cert.ReferenceIdeal.Tail

open Idealize.ShloMosaic Idealize.ShloMosaic.Pointwise Cert.ReferenceIdeal.Gen Idealize.ShloMosaic.TcCoe
open Idealize.SL.Sem Cert.Head

variable (m : (ℓ : Loc nD τ sig) → Buf (Elt Ideal) ℓ) (ρ : Dev nD → PrngReg) (c : Dev nD)

/-- The one block of each array is the array. -/
theorem idx : ∀ t : Fin cfg0.N, win0_0.index t = ![0, 0, 0, 0] ∧ win0_1.index t = ![0, 0, 0, 0] ∧ win0_2.index t = ![0, 0, 0, 0]
    ∧ win0_3.index t = ![0, 0, 0, 0] :=
  (by decide +kernel : ∀ t : Fin grid0.N, _)

theorem iblk0 : iblk m c 0 t0_0 = m ((c : Thread nD τ).loc main_arg0) := by blk_ext! [iblk, V, idx t0_0]
theorem iblk1 : iblk m c 1 t0_0 = m ((c : Thread nD τ).loc main_arg2) := by blk_ext! [iblk, V, idx t0_0]
theorem iblk2 : iblk m c 2 t0_0 = m ((c : Thread nD τ).loc main_arg4) := by blk_ext! [iblk, V, idx t0_0]
theorem iblk3 : iblk m c 3 t0_0 = m ((c : Thread nD τ).loc main_arg6) := by blk_ext! [iblk, V, idx t0_0]

/-- The decoded `q` is `q`; -/
theorem arr4 : (dats m 0 c).arrAt 4 cfg0.N = m ((c : Thread nD τ).loc main_arg0) := by
  refine (dats m 0 c).arrAt_eq_of_after_last 4 t0_0 (by decide +kernel) _ fun j => ?_
  blk_simp
  rw [after0_4]
  frame_out
  rw [iblk0]
  rfl

/-- `k` is `k`; -/
theorem arr5 : (dats m 0 c).arrAt 5 cfg0.N = m ((c : Thread nD τ).loc main_arg2) := by
  refine (dats m 0 c).arrAt_eq_of_after_last 5 t0_0 (by decide +kernel) _ fun j => ?_
  blk_simp
  rw [after0_5]
  frame_out
  rw [iblk1]
  rfl

/-- `v` is `v`; -/
theorem arr6 : (dats m 0 c).arrAt 6 cfg0.N = m ((c : Thread nD τ).loc main_arg4) := by
  refine (dats m 0 c).arrAt_eq_of_after_last 6 t0_0 (by decide +kernel) _ fun j => ?_
  blk_simp
  rw [after0_6]
  frame_out
  rw [iblk2]
  rfl

/-- `dO` is `dO`. -/
theorem arr7 : (dats m 0 c).arrAt 7 cfg0.N = m ((c : Thread nD τ).loc main_arg6) := by
  refine (dats m 0 c).arrAt_eq_of_after_last 7 t0_0 (by decide +kernel) _ fun j => ?_
  blk_simp
  rw [after0_7]
  frame_out
  rw [iblk3]
  rfl

/-- What the operations after the decode start from. -/
def start : Valuation τ sig (Elt Ideal) :=
  Pipeline.withArrays (cfgs 0).spec c (V0 m c) fun w => (dats m 0 c).arrAt w (cfgs 0).N

theorem start_v0_0 : start m c (Proc.devRef .tc main_v0_0) = m ((c : Thread nD τ).loc main_arg0) :=
  (Pipeline.withArrays_arr spec0 launch0.win.arr_inj c (V0 m c) _ 4).trans (arr4 m c)
theorem start_v0_1 : start m c (Proc.devRef .tc main_v0_1) = m ((c : Thread nD τ).loc main_arg2) :=
  (Pipeline.withArrays_arr spec0 launch0.win.arr_inj c (V0 m c) _ 5).trans (arr5 m c)
theorem start_v0_2 : start m c (Proc.devRef .tc main_v0_2) = m ((c : Thread nD τ).loc main_arg4) :=
  (Pipeline.withArrays_arr spec0 launch0.win.arr_inj c (V0 m c) _ 6).trans (arr6 m c)
theorem start_v0_3 : start m c (Proc.devRef .tc main_v0_3) = m ((c : Thread nD τ).loc main_arg6) :=
  (Pipeline.withArrays_arr spec0 launch0.win.arr_inj c (V0 m c) _ 7).trans (arr7 m c)
theorem start_arg1 : start m c (Proc.devRef .tc main_arg1) = m ((c : Thread nD τ).loc main_arg1) :=
  Pipeline.withArrays_of_ne spec0 c (V0 m c) _ main_arg1 (by decide : ∀ w, Pipeline.arrRef spec0 w ≠ main_arg1)
theorem start_arg3 : start m c (Proc.devRef .tc main_arg3) = m ((c : Thread nD τ).loc main_arg3) :=
  Pipeline.withArrays_of_ne spec0 c (V0 m c) _ main_arg3 (by decide : ∀ w, Pipeline.arrRef spec0 w ≠ main_arg3)
theorem start_arg5 : start m c (Proc.devRef .tc main_arg5) = m ((c : Thread nD τ).loc main_arg5) :=
  Pipeline.withArrays_of_ne spec0 c (V0 m c) _ main_arg5 (by decide : ∀ w, Pipeline.arrRef spec0 w ≠ main_arg5)
theorem start_arg7 : start m c (Proc.devRef .tc main_arg7) = m ((c : Thread nD τ).loc main_arg7) :=
  Pipeline.withArrays_of_ne spec0 c (V0 m c) _ main_arg7 (by decide : ∀ w, Pipeline.arrRef spec0 w ≠ main_arg7)

/-- The head at `(b, g)` of the arguments. -/
def argHead (b : Fin 2) (g : Fin 12) : Head where
  q n t d := (m ((c : Thread nD τ).loc main_arg0) : Vec Ideal S2x12x1024x128 .fp8e4m3) (ix4 b g (row n t) d)
  k n t d := (m ((c : Thread nD τ).loc main_arg2) : Vec Ideal S2x12x1024x128 .fp8e4m3) (ix4 b g (row n t) d)
  v n t d := (m ((c : Thread nD τ).loc main_arg4) : Vec Ideal S2x12x1024x256 .fp8e4m3) (ix4 b g (row n t) d)
  o n t d := (m ((c : Thread nD τ).loc main_arg6) : Vec Ideal S2x12x1024x256 .fp8e5m2) (ix4 b g (row n t) d)
  r n t := (m ((c : Thread nD τ).loc main_arg7) : Vec Ideal S2x12x1024 .f32) (ix3 b g (row n t))
  qs n := (m ((c : Thread nD τ).loc main_arg1) : Vec Ideal S2x12x16 .f32) (ix3 b g n)
  ks n := (m ((c : Thread nD τ).loc main_arg3) : Vec Ideal S2x12x16 .f32) (ix3 b g n)
  vs n := (m ((c : Thread nD τ).loc main_arg5) : Vec Ideal S2x12x16 .f32) (ix3 b g n)

/-- The operations after the decode see the arguments. -/
theorem headOf_start (b : Fin 2) (g : Fin 12) : headOf (start m c) b g = argHead m c b g := by
  unfold headOf argHead
  rw [start_v0_0, start_v0_1, start_v0_2, start_v0_3, start_arg1, start_arg3, start_arg5, start_arg7]

/-- The reference's results after its run, at an index; the arguments are unchanged. -/
theorem run_at : θ_run defs (onTc (τ := τ) (main (F := Ideal))) ⟨m, fun _ => 0, ρ⟩ fun r => ∀ c : Dev nD,
      (∀ j t d, (r.2.mem ((c : Thread nD τ).loc main_v70) : Vec Ideal S24x1024x128 .bf16) (ix3 j t d)
        = rdq (argHead m c (batchOf j) (headNo j)) sigma (chunkOf t) (posOf t) d)
      ∧ (∀ j t d, (r.2.mem ((c : Thread nD τ).loc main_v72) : Vec Ideal S24x1024x128 .bf16) (ix3 j t d)
        = rdk (argHead m c (batchOf j) (headNo j)) sigma (chunkOf t) (posOf t) d)
      ∧ (∀ j t d, (r.2.mem ((c : Thread nD τ).loc main_v74) : Vec Ideal S24x1024x256 .bf16) (ix3 j t d)
        = rdv (argHead m c (batchOf j) (headNo j)) sigma (chunkOf t) (posOf t) d) :=
  (θ_run defs _ _).mono (fun r h c =>
      ⟨fun j t d => (congrFun ((h c).2 main_v70 (Pipeline.mem_restRefs_of main_v70 (by decide) (by decide))) (ix3 j t d)).trans
          ((v70_at (start m c) j t d).trans (by rw [headOf_start])),
        fun j t d => (congrFun ((h c).2 main_v72 (Pipeline.mem_restRefs_of main_v72 (by decide) (by decide))) (ix3 j t d)).trans
          ((v72_at (start m c) j t d).trans (by rw [headOf_start])),
        fun j t d => (congrFun ((h c).2 main_v74 (Pipeline.mem_restRefs_of main_v74 (by decide) (by decide))) (ix3 j t d)).trans
          ((v74_at (start m c) j t d).trans (by rw [headOf_start]))⟩)
    (run_main m ρ)

end Cert.ReferenceIdeal.Tail

end
-- ==== Proof.Pre.lean ====
/-
  What the precondition says of the scales: those of `k`, `v` and `dO` are nonnegative and not `⊤`.
-/
module

public import proofs.«01_k».proof.Proof.Gen.Pre_tame_scales
public import Idealize.ShloMosaic.Lib.Pointwise

@[expose] public section

set_option maxRecDepth 16384

noncomputable section

namespace Cert.Pre_tame_scales

open Idealize.ShloMosaic Idealize.ShloMosaic.Pointwise Cert.Pre_tame_scales.Gen

/-- Both bits of a conjunction that is one are one. -/
theorem andi_one : ∀ p q : BitVec 1, IntOp.andi p q = 1#1 → p = 1#1 ∧ q = 1#1 := by decide

/-- The bit of a decision that is one says that it holds. -/
theorem of_bit {p : Prop} [Decidable p] (h : BitVec.ofBool (decide p) = 1#1) : p := by
  by_contra hp
  rw [decide_eq_false hp] at h
  exact absurd h (by decide)

/-- The two tests of one scale. -/
theorem of_bits {x y : EReal} (h : IntOp.andi (BitVec.ofBool (decide (0 ≤ x))) (BitVec.ofBool (decide (x < y))) = 1#1) : 0 ≤ x ∧ x ≠ ⊤ :=
  ⟨of_bit (andi_one _ _ h).1, ne_top_of_lt (of_bit (andi_one _ _ h).2)⟩

/-- The precondition at one row. -/
theorem fn_at (a0 a2 : Vec Ideal S2x12x1024x128 .fp8e4m3) (a1 a3 a5 : Vec Ideal S2x12x16 .f32) (a4 : Vec Ideal S2x12x1024x256 .fp8e4m3)
    (a6 : Vec Ideal S2x12x1024x256 .fp8e5m2) (a7 : Vec Ideal S2x12x1024 .f32) (h : fn (F := Ideal) a0 a1 a2 a3 a4 a5 a6 a7 = fun _ => 1#1)
    (b : Fin 2) (g : Fin 12) (n : Fin 16) (t : Fin 64) :
    ((0 : EReal) ≤ a3 (ix3 b g n) ∧ (a3 (ix3 b g n) : EReal) ≠ ⊤) ∧ ((0 : EReal) ≤ a5 (ix3 b g n) ∧ (a5 (ix3 b g n) : EReal) ≠ ⊤)
      ∧ ((0 : EReal) ≤ a7 (ix3 b g ⟨n.val * 64 + t.val, by omega⟩) ∧ (a7 (ix3 b g ⟨n.val * 64 + t.val, by omega⟩) : EReal) ≠ ⊤) := by
  have h := congrFun h (ix4 b g n t)
  revert h
  pointwise [fn, fn_part1]
  intro h
  obtain ⟨h1, h2⟩ := andi_one _ _ h
  obtain ⟨h3, h4⟩ := andi_one _ _ h1
  exact ⟨of_bits h3, of_bits h4, of_bits h2⟩

end Cert.Pre_tame_scales

end
-- ==== Proof.Algebraic.lean ====
/-
  The equation of the two programs: from memories that agree on the arguments, whose scales of `k`, `v` and `dO` are
  nonnegative and finite, the kernel's three results and the reference's are the same arrays.
-/
module

public import proofs.«01_k».proof.Defs
public import proofs.«01_k».proof.Proof.Arrays
public import proofs.«01_k».proof.Proof.RefRun
public import proofs.«01_k».proof.Proof.Pre
public import Idealize.ShloMosaic.Lib.Claim

@[expose] public section

set_option maxRecDepth 16384

noncomputable section

namespace Cert.Equation

open Idealize.ShloMosaic Idealize.ShloMosaic.Pointwise Idealize.ShloMosaic.TcCoe Idealize.SL.Sem Cert.Head

section Heads

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev KernelIdeal.nD)

/-- Under the precondition every head of the arguments is tame. -/
theorem tame (hpre : Pre_KernelIdeal_tame_scales m) (b : Fin 2) (g : Fin 12) : (KernelIdeal.Chunk.argHead m c b g).Tame where
  r n t := (Pre_tame_scales.fn_at _ _ _ _ _ _ _ _ (hpre c) b g n t).2.2
  ks n := (Pre_tame_scales.fn_at _ _ _ _ _ _ _ _ (hpre c) b g n 0).1
  vs n := (Pre_tame_scales.fn_at _ _ _ _ _ _ _ _ (hpre c) b g n 0).2.1

/-- Memories that agree on the arguments hold the same heads. -/
theorem argHead_eq
    (h0 : m' ((c : Thread ReferenceIdeal.nD ReferenceIdeal.τ).loc ReferenceIdeal.main_arg0) = m ((c : Thread KernelIdeal.nD KernelIdeal.τ).loc KernelIdeal.main_arg0))
    (h1 : m' ((c : Thread ReferenceIdeal.nD ReferenceIdeal.τ).loc ReferenceIdeal.main_arg1) = m ((c : Thread KernelIdeal.nD KernelIdeal.τ).loc KernelIdeal.main_arg1))
    (h2 : m' ((c : Thread ReferenceIdeal.nD ReferenceIdeal.τ).loc ReferenceIdeal.main_arg2) = m ((c : Thread KernelIdeal.nD KernelIdeal.τ).loc KernelIdeal.main_arg2))
    (h3 : m' ((c : Thread ReferenceIdeal.nD ReferenceIdeal.τ).loc ReferenceIdeal.main_arg3) = m ((c : Thread KernelIdeal.nD KernelIdeal.τ).loc KernelIdeal.main_arg3))
    (h4 : m' ((c : Thread ReferenceIdeal.nD ReferenceIdeal.τ).loc ReferenceIdeal.main_arg4) = m ((c : Thread KernelIdeal.nD KernelIdeal.τ).loc KernelIdeal.main_arg4))
    (h5 : m' ((c : Thread ReferenceIdeal.nD ReferenceIdeal.τ).loc ReferenceIdeal.main_arg5) = m ((c : Thread KernelIdeal.nD KernelIdeal.τ).loc KernelIdeal.main_arg5))
    (h6 : m' ((c : Thread ReferenceIdeal.nD ReferenceIdeal.τ).loc ReferenceIdeal.main_arg6) = m ((c : Thread KernelIdeal.nD KernelIdeal.τ).loc KernelIdeal.main_arg6))
    (h7 : m' ((c : Thread ReferenceIdeal.nD ReferenceIdeal.τ).loc ReferenceIdeal.main_arg7) = m ((c : Thread KernelIdeal.nD KernelIdeal.τ).loc KernelIdeal.main_arg7))
    (b : Fin 2) (g : Fin 12) : ReferenceIdeal.Tail.argHead m' c b g = KernelIdeal.Chunk.argHead m c b g := by
  unfold ReferenceIdeal.Tail.argHead KernelIdeal.Chunk.argHead
  rw [h0, h1, h2, h3, h4, h5, h6, h7]
  rfl

end Heads

/-- The kernel and the reference compute the same three arrays. -/
theorem algebraic : algebraic_KernelIdeal_ReferenceIdeal_pre_tame_scales := by
  unfold algebraic_KernelIdeal_ReferenceIdeal_pre_tame_scales
  intro m g m' g' hpre hargs
  refine ⟨fun c => KernelIdeal.Chunk.dqArr m c, fun c => KernelIdeal.Chunk.dkArr m c, fun c => KernelIdeal.Chunk.dvArr m c, ?_, ?_⟩
  · refine (θ_run KernelIdeal.defs _ _).mono (fun r h c => ?_) (KernelIdeal.Value.run_blocks m g)
    have h := h c
    exact ⟨h.1.trans (KernelIdeal.Chunk.arr_dq m c), h.2.1.trans (KernelIdeal.Chunk.arr_dk m c),
      h.2.2.1.trans (KernelIdeal.Chunk.arr_dv m c), h.2.2.2⟩
  · refine (θ_run ReferenceIdeal.defs _ _).mono (fun r h c => ?_)
      (θ_run_and (ReferenceIdeal.Tail.run_at m' g') (ReferenceIdeal.Gen.unchanged m' g'))
    have hr := h.1 c
    obtain ⟨h0, h1, h2, h3, h4, h5, h6, h7⟩ := hargs c
    have hh := argHead_eq m m' c h0 h1 h2 h3 h4 h5 h6 h7
    refine ⟨funext fun y => ?_, funext fun y => ?_, funext fun y => ?_, h.2 c⟩
    · refine (congrArg (r.2.mem ((c : Thread ReferenceIdeal.nD ReferenceIdeal.τ).loc ReferenceIdeal.main_v70)) (eq_ix3 (n0 := 24) (n1 := 1024) (n2 := 128) y)).trans
        ((hr.1 (y 0) (y 1) (y 2)).trans ?_)
      exact (congrArg (fun H => rdq H _ _ _ _) (hh _ _)).trans (kdq_eq _ _ _ _ (tame m c hpre _ _) _).symm
    · refine (congrArg (r.2.mem ((c : Thread ReferenceIdeal.nD ReferenceIdeal.τ).loc ReferenceIdeal.main_v72)) (eq_ix3 (n0 := 24) (n1 := 1024) (n2 := 128) y)).trans
        ((hr.2.1 (y 0) (y 1) (y 2)).trans ?_)
      exact (congrArg (fun H => rdk H _ _ _ _) (hh _ _)).trans (kdk_eq _ _ _ _ (tame m c hpre _ _) _).symm
    · refine (congrArg (r.2.mem ((c : Thread ReferenceIdeal.nD ReferenceIdeal.τ).loc ReferenceIdeal.main_v74)) (eq_ix3 (n0 := 24) (n1 := 1024) (n2 := 256) y)).trans
        ((hr.2.2 (y 0) (y 1) (y 2)).trans ?_)
      exact (congrArg (fun H => rdv H _ _ _ _) (hh _ _)).trans (kdv_eq _ _ _ _ _).symm

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_tame_scales
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Each program runs and leaves its arguments unchanged, the ideal program is the kernel, and the kernel computes what the
    reference does. -/
theorem claim : Cert.Claim := ⟨Cert.Kernel.Gen.facts, Cert.KernelIdeal.Gen.facts, Cert.ReferenceIdeal.Gen.facts, Cert.Pre_tame_scales.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, trivial, Cert.Equation.algebraic⟩

end Cert.Proof

end
